-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1000000x3 : Shape := ⟨2, ![1000000, 3]⟩
abbrev S256x256x256 : Shape := ⟨3, ![256, 256, 256]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel

variable [Facts]

def fn {F : FTy → Type} [FloatOps F] (main_arg0 : IVec S1000000x3 32) (main_arg1 : FVec F S256x256x256 .f32) : IVec S_ 1 :=
  let main_c : IVec S_ 32 := constantI S_ 32 0#32
  let main_v0 : IVec S1000000x3 32 := broadcastInDim S1000000x3 ![] bcast_S_S1000000x3 main_c
  let main_v1 : IVec S1000000x3 1 := cmpi .sge main_arg0 main_v0
  let main_c_0 : IVec S_ 32 := constantI S_ 32 256#32
  let main_v2 : IVec S1000000x3 32 := broadcastInDim S1000000x3 ![] bcast_S_S1000000x3 main_c_0
  let main_v3 : IVec S1000000x3 1 := cmpi .slt main_arg0 main_v2
  let main_v4 : IVec S1000000x3 1 := andi main_v1 main_v3
  let main_c_1 : IVec S_ 1 := constantI S_ 1 1#1
  let main_v5 : IVec S_ 1 := (fun x v => Host.reduce IntOp.andi x v reducesTo_S1000000x3_S_d0_1 h_S_) main_v4 main_c_1
  main_v5
-- ==== Kernel.lean ====
abbrev S1000000x3 : Shape := ⟨2, ![1000000, 3]⟩
abbrev S256x256x256 : Shape := ⟨3, ![256, 256, 256]⟩
abbrev S3x1000000 : Shape := ⟨2, ![3, 1000000]⟩
abbrev S256x32x8x2x128 : Shape := ⟨5, ![256, 32, 8, 2, 128]⟩
abbrev S256x32x2x8x128 : Shape := ⟨5, ![256, 32, 2, 8, 128]⟩
abbrev S16777216 : Shape := ⟨1, ![16777216]⟩
abbrev S1000000 : Shape := ⟨1, ![1000000]⟩
abbrev S4x8064 : Shape := ⟨2, ![4, 8064]⟩
abbrev S8000 : Shape := ⟨1, ![8000]⟩
abbrev S8064 : Shape := ⟨1, ![8064]⟩
abbrev S_ : Shape := ⟨0, ![]⟩
abbrev S1x8000 : Shape := ⟨2, ![1, 8000]⟩
abbrev S16 : Shape := ⟨1, ![16]⟩
abbrev S1x16 : Shape := ⟨2, ![1, 16]⟩
abbrev S128 : Shape := ⟨1, ![128]⟩
abbrev S64 : Shape := ⟨1, ![64]⟩

abbrev nBuf : Table → Nat
  | .hbm => 7
  | .local .scVector .vmem => 6
  | _ => 0

abbrev bufTy : (tb : Table) → Fin (nBuf tb) → BufTy
  | .hbm, ⟨0, _⟩ => ⟨S1000000x3, .i32⟩
  | .hbm, ⟨1, _⟩ => ⟨S256x256x256, .f32⟩
  | .hbm, ⟨2, _⟩ => ⟨S3x1000000, .i32⟩
  | .hbm, ⟨3, _⟩ => ⟨S256x32x8x2x128, .f32⟩
  | .hbm, ⟨4, _⟩ => ⟨S256x32x2x8x128, .f32⟩
  | .hbm, ⟨5, _⟩ => ⟨S16777216, .f32⟩
  | .hbm, ⟨6, _⟩ => ⟨S1000000, .f32⟩
  | .local .scVector .vmem, ⟨0, _⟩ => ⟨S4x8064, .i32⟩
  | .local .scVector .vmem, ⟨1, _⟩ => ⟨S4x8064, .i32⟩
  | .local .scVector .vmem, ⟨2, _⟩ => ⟨S8000, .i32⟩
  | .local .scVector .vmem, ⟨3, _⟩ => ⟨S8000, .i32⟩
  | .local .scVector .vmem, ⟨4, _⟩ => ⟨S8064, .f32⟩
  | .local .scVector .vmem, ⟨5, _⟩ => ⟨S8064, .f32⟩
  | _, _ => ⟨S1000000x3, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_v3_scv : Ref sig .scVector := ⟨.hbm, 5, rfl⟩
abbrev main_v4_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c125_i32 : BitVec 32 := 125#32
  let v3 : BitVec 1 := Scalar.cmpi .slt v2 c125_i32
  let c125_i32_0 : BitVec 32 := 125#32
  let v4 : BitVec 32 := Scalar.subi v2 c125_i32_0
  let v5 : BitVec 32 := Scalar.select v3 v2 v4
  let c8000_i32 : BitVec 32 := 8000#32
  let v6 : BitVec 32 := Scalar.muli v5 c8000_i32
  v6
def k0_off1 (i : grid0.Coords) (c0_i32 : BitVec 32) : Fin 2 → Nat :=
  let c0_i32_1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c125_i32 : BitVec 32 := 125#32
  let v3 : BitVec 1 := Scalar.cmpi .slt v2 c125_i32
  let c125_i32_0 : BitVec 32 := 125#32
  let v4 : BitVec 32 := Scalar.subi v2 c125_i32_0
  let v5 : BitVec 32 := Scalar.select v3 v2 v4
  let c8000_i32 : BitVec 32 := 8000#32
  let v6 : BitVec 32 := Scalar.muli v5 c8000_i32
  let v7 : BitVec 32 := v6
  ![0, v7.toNat]
def k0_off2 (i : grid0.Coords) (c0_i32 : BitVec 32) : Fin 2 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c125_i32 : BitVec 32 := 125#32
  let v3 : BitVec 1 := Scalar.cmpi .slt v2 c125_i32
  let c125_i32_0 : BitVec 32 := 125#32
  let v4 : BitVec 32 := Scalar.subi v2 c125_i32_0
  let v5 : BitVec 32 := Scalar.select v3 v2 v4
  let c8000_i32 : BitVec 32 := 8000#32
  let v6 : BitVec 32 := Scalar.muli v5 c8000_i32
  let v7 : BitVec 32 := v6
  ![1, v7.toNat]
def k0_off3 (i : grid0.Coords) (c0_i32 : BitVec 32) : Fin 2 → Nat :=
  let c2_i32_8 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c125_i32 : BitVec 32 := 125#32
  let v3 : BitVec 1 := Scalar.cmpi .slt v2 c125_i32
  let c125_i32_0 : BitVec 32 := 125#32
  let v4 : BitVec 32 := Scalar.subi v2 c125_i32_0
  let v5 : BitVec 32 := Scalar.select v3 v2 v4
  let c8000_i32 : BitVec 32 := 8000#32
  let v6 : BitVec 32 := Scalar.muli v5 c8000_i32
  let v7 : BitVec 32 := v6
  ![2, v7.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v32 : BitVec 32 := Scalar.addi v1 c32_i32
  let c125_i32_12 : BitVec 32 := 125#32
  let v33 : BitVec 1 := Scalar.cmpi .slt v32 c125_i32_12
  let c125_i32_13 : BitVec 32 := 125#32
  let v34 : BitVec 32 := Scalar.subi v32 c125_i32_13
  let v35 : BitVec 32 := Scalar.select v33 v32 v34
  let c8000_i32_14 : BitVec 32 := 8000#32
  let v36 : BitVec 32 := Scalar.muli v35 c8000_i32_14
  v36
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_27 : BitVec 32 := 0#32
  let v62 : BitVec 32 := Scalar.addi v1 c0_i32_27
  let c125_i32_28 : BitVec 32 := 125#32
  let v63 : BitVec 1 := Scalar.cmpi .slt v62 c125_i32_28
  let c125_i32_29 : BitVec 32 := 125#32
  let v64 : BitVec 32 := Scalar.subi v62 c125_i32_29
  let v65 : BitVec 32 := Scalar.select v63 v62 v64
  let c8000_i32_30 : BitVec 32 := 8000#32
  let v66 : BitVec 32 := Scalar.muli v65 c8000_i32_30
  v66
@[reducible] def k0_t1_loop : Scf.Loop 32 :=
  let c0_i32_44 : BitVec 32 := 0#32
  let c125_i32_45 : BitVec 32 := 125#32
  let v92 : BitVec 32 := Scalar.addi c0_i32_44 c125_i32_45
  let c1_i32_46 : BitVec 32 := 1#32
  ⟨c0_i32_44, v92, c1_i32_46⟩
def k0_mult4 (k0_t1 : Fin k0_t1_loop.trips) : BitVec 32 :=
  let c16_i32 : BitVec 32 := 16#32
  let c4_i32 : BitVec 32 := 4#32
  let c0_i32_44 : BitVec 32 := 0#32
  let c1_i32_46 : BitVec 32 := 1#32
  let arg19 : BitVec 32 := Scf.iv c0_i32_44 c1_i32_46 k0_t1
  let v1838 : BitVec 32 := Scalar.muli c4_i32 arg19
  let c0_i32_1639 : BitVec 32 := 0#32
  let v1839 : BitVec 32 := Scalar.addi v1838 c0_i32_1639
  let v1840 : BitVec 32 := Scalar.muli c16_i32 v1839
  v1840
def k0_off4 (k0_t1 : Fin k0_t1_loop.trips) (c0_i32_1639 : BitVec 32) : Fin 2 → Nat :=
  let c0_i32_1640 : BitVec 32 := 0#32
  let v1842 : Index := Scalar.indexCast c0_i32_1640
  let c16_i32 : BitVec 32 := 16#32
  let c4_i32 : BitVec 32 := 4#32
  let c0_i32_44 : BitVec 32 := 0#32
  let c1_i32_46 : BitVec 32 := 1#32
  let arg19 : BitVec 32 := Scf.iv c0_i32_44 c1_i32_46 k0_t1
  let v1838 : BitVec 32 := Scalar.muli c4_i32 arg19
  let v1839 : BitVec 32 := Scalar.addi v1838 c0_i32_1639
  let v1840 : BitVec 32 := Scalar.muli c16_i32 v1839
  let v1841 : BitVec 32 := v1840
  let v1843 : Index := Scalar.indexCast v1841
  ![0, v1843.toNat]
def k0_off5 (k0_t1 : Fin k0_t1_loop.trips) (c0_i32_1639 : BitVec 32) : Fin 2 → Nat :=
  let c1_i32_1641 : BitVec 32 := 1#32
  let v1845 : Index := Scalar.indexCast c1_i32_1641
  let c16_i32 : BitVec 32 := 16#32
  let c4_i32 : BitVec 32 := 4#32
  let c0_i32_44 : BitVec 32 := 0#32
  let c1_i32_46 : BitVec 32 := 1#32
  let arg19 : BitVec 32 := Scf.iv c0_i32_44 c1_i32_46 k0_t1
  let v1838 : BitVec 32 := Scalar.muli c4_i32 arg19
  let v1839 : BitVec 32 := Scalar.addi v1838 c0_i32_1639
  let v1840 : BitVec 32 := Scalar.muli c16_i32 v1839
  let v1841 : BitVec 32 := v1840
  let v1846 : Index := Scalar.indexCast v1841
  ![1, v1846.toNat]
def k0_off6 (k0_t1 : Fin k0_t1_loop.trips) (c0_i32_1639 : BitVec 32) : Fin 2 → Nat :=
  let c2_i32_1642 : BitVec 32 := 2#32
  let v1848 : Index := Scalar.indexCast c2_i32_1642
  let c16_i32 : BitVec 32 := 16#32
  let c4_i32 : BitVec 32 := 4#32
  let c0_i32_44 : BitVec 32 := 0#32
  let c1_i32_46 : BitVec 32 := 1#32
  let arg19 : BitVec 32 := Scf.iv c0_i32_44 c1_i32_46 k0_t1
  let v1838 : BitVec 32 := Scalar.muli c4_i32 arg19
  let v1839 : BitVec 32 := Scalar.addi v1838 c0_i32_1639
  let v1840 : BitVec 32 := Scalar.muli c16_i32 v1839
  let v1841 : BitVec 32 := v1840
  let v1849 : Index := Scalar.indexCast v1841
  ![2, v1849.toNat]
def k0_off7 (k0_t1 : Fin k0_t1_loop.trips) (c0_i32_1639 : BitVec 32) : Fin 1 → Nat :=
  let c16_i32 : BitVec 32 := 16#32
  let c4_i32 : BitVec 32 := 4#32
  let c0_i32_44 : BitVec 32 := 0#32
  let c1_i32_46 : BitVec 32 := 1#32
  let arg19 : BitVec 32 := Scf.iv c0_i32_44 c1_i32_46 k0_t1
  let v1838 : BitVec 32 := Scalar.muli c4_i32 arg19
  let v1839 : BitVec 32 := Scalar.addi v1838 c0_i32_1639
  let v1840 : BitVec 32 := Scalar.muli c16_i32 v1839
  let v1841 : BitVec 32 := v1840
  let v1873 : Index := Scalar.indexCast v1841
  ![v1873.toNat]
def k0_mult5 (k0_t1 : Fin k0_t1_loop.trips) : BitVec 32 :=
  let c16_i32_1648 : BitVec 32 := 16#32
  let c4_i32_1646 : BitVec 32 := 4#32
  let c0_i32_44 : BitVec 32 := 0#32
  let c1_i32_46 : BitVec 32 := 1#32
  let arg19 : BitVec 32 := Scf.iv c0_i32_44 c1_i32_46 k0_t1
  let v1875 : BitVec 32 := Scalar.muli c4_i32_1646 arg19
  let c1_i32_1647 : BitVec 32 := 1#32
  let v1876 : BitVec 32 := Scalar.addi v1875 c1_i32_1647
  let v1877 : BitVec 32 := Scalar.muli c16_i32_1648 v1876
  v1877
def k0_mult6 (k0_t1 : Fin k0_t1_loop.trips) : BitVec 32 :=
  let c16_i32_1663 : BitVec 32 := 16#32
  let c4_i32_1661 : BitVec 32 := 4#32
  let c0_i32_44 : BitVec 32 := 0#32
  let c1_i32_46 : BitVec 32 := 1#32
  let arg19 : BitVec 32 := Scf.iv c0_i32_44 c1_i32_46 k0_t1
  let v1912 : BitVec 32 := Scalar.muli c4_i32_1661 arg19
  let c2_i32_1662 : BitVec 32 := 2#32
  let v1913 : BitVec 32 := Scalar.addi v1912 c2_i32_1662
  let v1914 : BitVec 32 := Scalar.muli c16_i32_1663 v1913
  v1914
def k0_mult7 (k0_t1 : Fin k0_t1_loop.trips) : BitVec 32 :=
  let c16_i32_1678 : BitVec 32 := 16#32
  let c4_i32_1676 : BitVec 32 := 4#32
  let c0_i32_44 : BitVec 32 := 0#32
  let c1_i32_46 : BitVec 32 := 1#32
  let arg19 : BitVec 32 := Scf.iv c0_i32_44 c1_i32_46 k0_t1
  let v1949 : BitVec 32 := Scalar.muli c4_i32_1676 arg19
  let c3_i32_1677 : BitVec 32 := 3#32
  let v1950 : BitVec 32 := Scalar.addi v1949 c3_i32_1677
  let v1951 : BitVec 32 := Scalar.muli c16_i32_1678 v1950
  v1951
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v282 : BitVec 32 := Scalar.addi v1 c64_i32
  let c125_i32_175 : BitVec 32 := 125#32
  let v283 : BitVec 1 := Scalar.cmpi .slt v282 c125_i32_175
  let c125_i32_176 : BitVec 32 := 125#32
  let v284 : BitVec 32 := Scalar.subi v282 c125_i32_176
  let v285 : BitVec 32 := Scalar.select v283 v282 v284
  let c8000_i32_177 : BitVec 32 := 8000#32
  let v286 : BitVec 32 := Scalar.muli v285 c8000_i32_177
  v286
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_190 : BitVec 32 := 32#32
  let v312 : BitVec 32 := Scalar.addi v1 c32_i32_190
  let c125_i32_191 : BitVec 32 := 125#32
  let v313 : BitVec 1 := Scalar.cmpi .slt v312 c125_i32_191
  let c125_i32_192 : BitVec 32 := 125#32
  let v314 : BitVec 32 := Scalar.subi v312 c125_i32_192
  let v315 : BitVec 32 := Scalar.select v313 v312 v314
  let c8000_i32_193 : BitVec 32 := 8000#32
  let v316 : BitVec 32 := Scalar.muli v315 c8000_i32_193
  v316
@[reducible] def k0_t2_loop : Scf.Loop 32 :=
  let c0_i32_207 : BitVec 32 := 0#32
  let c125_i32_208 : BitVec 32 := 125#32
  let v342 : BitVec 32 := Scalar.addi c0_i32_207 c125_i32_208
  let c1_i32_209 : BitVec 32 := 1#32
  ⟨c0_i32_207, v342, c1_i32_209⟩
def k0_mult10 (k0_t2 : Fin k0_t2_loop.trips) : BitVec 32 :=
  let c16_i32 : BitVec 32 := 16#32
  let c4_i32 : BitVec 32 := 4#32
  let c0_i32_207 : BitVec 32 := 0#32
  let c1_i32_209 : BitVec 32 := 1#32
  let arg19 : BitVec 32 := Scf.iv c0_i32_207 c1_i32_209 k0_t2
  let v1838 : BitVec 32 := Scalar.muli c4_i32 arg19
  let c0_i32_1639 : BitVec 32 := 0#32
  let v1839 : BitVec 32 := Scalar.addi v1838 c0_i32_1639
  let v1840 : BitVec 32 := Scalar.muli c16_i32 v1839
  v1840
def k0_off8 (k0_t2 : Fin k0_t2_loop.trips) (c0_i32_1639 : BitVec 32) : Fin 2 → Nat :=
  let c0_i32_1640 : BitVec 32 := 0#32
  let v1842 : Index := Scalar.indexCast c0_i32_1640
  let c16_i32 : BitVec 32 := 16#32
  let c4_i32 : BitVec 32 := 4#32
  let c0_i32_207 : BitVec 32 := 0#32
  let c1_i32_209 : BitVec 32 := 1#32
  let arg19 : BitVec 32 := Scf.iv c0_i32_207 c1_i32_209 k0_t2
  let v1838 : BitVec 32 := Scalar.muli c4_i32 arg19
  let v1839 : BitVec 32 := Scalar.addi v1838 c0_i32_1639
  let v1840 : BitVec 32 := Scalar.muli c16_i32 v1839
  let v1841 : BitVec 32 := v1840
  let v1843 : Index := Scalar.indexCast v1841
  ![0, v1843.toNat]
def k0_off9 (k0_t2 : Fin k0_t2_loop.trips) (c0_i32_1639 : BitVec 32) : Fin 2 → Nat :=
  let c1_i32_1641 : BitVec 32 := 1#32
  let v1845 : Index := Scalar.indexCast c1_i32_1641
  let c16_i32 : BitVec 32 := 16#32
  let c4_i32 : BitVec 32 := 4#32
  let c0_i32_207 : BitVec 32 := 0#32
  let c1_i32_209 : BitVec 32 := 1#32
  let arg19 : BitVec 32 := Scf.iv c0_i32_207 c1_i32_209 k0_t2
  let v1838 : BitVec 32 := Scalar.muli c4_i32 arg19
  let v1839 : BitVec 32 := Scalar.addi v1838 c0_i32_1639
  let v1840 : BitVec 32 := Scalar.muli c16_i32 v1839
  let v1841 : BitVec 32 := v1840
  let v1846 : Index := Scalar.indexCast v1841
  ![1, v1846.toNat]
def k0_off10 (k0_t2 : Fin k0_t2_loop.trips) (c0_i32_1639 : BitVec 32) : Fin 2 → Nat :=
  let c2_i32_1642 : BitVec 32 := 2#32
  let v1848 : Index := Scalar.indexCast c2_i32_1642
  let c16_i32 : BitVec 32 := 16#32
  let c4_i32 : BitVec 32 := 4#32
  let c0_i32_207 : BitVec 32 := 0#32
  let c1_i32_209 : BitVec 32 := 1#32
  let arg19 : BitVec 32 := Scf.iv c0_i32_207 c1_i32_209 k0_t2
  let v1838 : BitVec 32 := Scalar.muli c4_i32 arg19
  let v1839 : BitVec 32 := Scalar.addi v1838 c0_i32_1639
  let v1840 : BitVec 32 := Scalar.muli c16_i32 v1839
  let v1841 : BitVec 32 := v1840
  let v1849 : Index := Scalar.indexCast v1841
  ![2, v1849.toNat]
def k0_off11 (k0_t2 : Fin k0_t2_loop.trips) (c0_i32_1639 : BitVec 32) : Fin 1 → Nat :=
  let c16_i32 : BitVec 32 := 16#32
  let c4_i32 : BitVec 32 := 4#32
  let c0_i32_207 : BitVec 32 := 0#32
  let c1_i32_209 : BitVec 32 := 1#32
  let arg19 : BitVec 32 := Scf.iv c0_i32_207 c1_i32_209 k0_t2
  let v1838 : BitVec 32 := Scalar.muli c4_i32 arg19
  let v1839 : BitVec 32 := Scalar.addi v1838 c0_i32_1639
  let v1840 : BitVec 32 := Scalar.muli c16_i32 v1839
  let v1841 : BitVec 32 := v1840
  let v1873 : Index := Scalar.indexCast v1841
  ![v1873.toNat]
def k0_mult11 (k0_t2 : Fin k0_t2_loop.trips) : BitVec 32 :=
  let c16_i32_1648 : BitVec 32 := 16#32
  let c4_i32_1646 : BitVec 32 := 4#32
  let c0_i32_207 : BitVec 32 := 0#32
  let c1_i32_209 : BitVec 32 := 1#32
  let arg19 : BitVec 32 := Scf.iv c0_i32_207 c1_i32_209 k0_t2
  let v1875 : BitVec 32 := Scalar.muli c4_i32_1646 arg19
  let c1_i32_1647 : BitVec 32 := 1#32
  let v1876 : BitVec 32 := Scalar.addi v1875 c1_i32_1647
  let v1877 : BitVec 32 := Scalar.muli c16_i32_1648 v1876
  v1877
def k0_mult12 (k0_t2 : Fin k0_t2_loop.trips) : BitVec 32 :=
  let c16_i32_1663 : BitVec 32 := 16#32
  let c4_i32_1661 : BitVec 32 := 4#32
  let c0_i32_207 : BitVec 32 := 0#32
  let c1_i32_209 : BitVec 32 := 1#32
  let arg19 : BitVec 32 := Scf.iv c0_i32_207 c1_i32_209 k0_t2
  let v1912 : BitVec 32 := Scalar.muli c4_i32_1661 arg19
  let c2_i32_1662 : BitVec 32 := 2#32
  let v1913 : BitVec 32 := Scalar.addi v1912 c2_i32_1662
  let v1914 : BitVec 32 := Scalar.muli c16_i32_1663 v1913
  v1914
def k0_mult13 (k0_t2 : Fin k0_t2_loop.trips) : BitVec 32 :=
  let c16_i32_1678 : BitVec 32 := 16#32
  let c4_i32_1676 : BitVec 32 := 4#32
  let c0_i32_207 : BitVec 32 := 0#32
  let c1_i32_209 : BitVec 32 := 1#32
  let arg19 : BitVec 32 := Scf.iv c0_i32_207 c1_i32_209 k0_t2
  let v1949 : BitVec 32 := Scalar.muli c4_i32_1676 arg19
  let c3_i32_1677 : BitVec 32 := 3#32
  let v1950 : BitVec 32 := Scalar.addi v1949 c3_i32_1677
  let v1951 : BitVec 32 := Scalar.muli c16_i32_1678 v1950
  v1951
def k0_mult14 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_589 : BitVec 32 := 0#32
  let v721 : BitVec 32 := Scalar.addi v1 c0_i32_589
  let c125_i32_590 : BitVec 32 := 125#32
  let v722 : BitVec 1 := Scalar.cmpi .slt v721 c125_i32_590
  let c125_i32_591 : BitVec 32 := 125#32
  let v723 : BitVec 32 := Scalar.subi v721 c125_i32_591
  let v724 : BitVec 32 := Scalar.select v722 v721 v723
  let c8000_i32_592 : BitVec 32 := 8000#32
  let v725 : BitVec 32 := Scalar.muli v724 c8000_i32_592
  v725
def k0_off12 (i : grid0.Coords) (c0_i32_589 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v721 : BitVec 32 := Scalar.addi v1 c0_i32_589
  let c125_i32_590 : BitVec 32 := 125#32
  let v722 : BitVec 1 := Scalar.cmpi .slt v721 c125_i32_590
  let c125_i32_591 : BitVec 32 := 125#32
  let v723 : BitVec 32 := Scalar.subi v721 c125_i32_591
  let v724 : BitVec 32 := Scalar.select v722 v721 v723
  let c8000_i32_592 : BitVec 32 := 8000#32
  let v725 : BitVec 32 := Scalar.muli v724 c8000_i32_592
  let v726 : BitVec 32 := v725
  ![v726.toNat]
def k0_mult15 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v731 : BitVec 32 := Scalar.addi v1 c96_i32
  let c125_i32_595 : BitVec 32 := 125#32
  let v732 : BitVec 1 := Scalar.cmpi .slt v731 c125_i32_595
  let c125_i32_596 : BitVec 32 := 125#32
  let v733 : BitVec 32 := Scalar.subi v731 c125_i32_596
  let v734 : BitVec 32 := Scalar.select v732 v731 v733
  let c8000_i32_597 : BitVec 32 := 8000#32
  let v735 : BitVec 32 := Scalar.muli v734 c8000_i32_597
  v735
def k0_mult16 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_610 : BitVec 32 := 64#32
  let v761 : BitVec 32 := Scalar.addi v1 c64_i32_610
  let c125_i32_611 : BitVec 32 := 125#32
  let v762 : BitVec 1 := Scalar.cmpi .slt v761 c125_i32_611
  let c125_i32_612 : BitVec 32 := 125#32
  let v763 : BitVec 32 := Scalar.subi v761 c125_i32_612
  let v764 : BitVec 32 := Scalar.select v762 v761 v763
  let c8000_i32_613 : BitVec 32 := 8000#32
  let v765 : BitVec 32 := Scalar.muli v764 c8000_i32_613
  v765
@[reducible] def k0_t3_loop : Scf.Loop 32 :=
  let c0_i32_627 : BitVec 32 := 0#32
  let c125_i32_628 : BitVec 32 := 125#32
  let v791 : BitVec 32 := Scalar.addi c0_i32_627 c125_i32_628
  let c1_i32_629 : BitVec 32 := 1#32
  ⟨c0_i32_627, v791, c1_i32_629⟩
def k0_mult17 (k0_t3 : Fin k0_t3_loop.trips) : BitVec 32 :=
  let c16_i32 : BitVec 32 := 16#32
  let c4_i32 : BitVec 32 := 4#32
  let c0_i32_627 : BitVec 32 := 0#32
  let c1_i32_629 : BitVec 32 := 1#32
  let arg19 : BitVec 32 := Scf.iv c0_i32_627 c1_i32_629 k0_t3
  let v1838 : BitVec 32 := Scalar.muli c4_i32 arg19
  let c0_i32_1639 : BitVec 32 := 0#32
  let v1839 : BitVec 32 := Scalar.addi v1838 c0_i32_1639
  let v1840 : BitVec 32 := Scalar.muli c16_i32 v1839
  v1840
def k0_off13 (k0_t3 : Fin k0_t3_loop.trips) (c0_i32_1639 : BitVec 32) : Fin 2 → Nat :=
  let c0_i32_1640 : BitVec 32 := 0#32
  let v1842 : Index := Scalar.indexCast c0_i32_1640
  let c16_i32 : BitVec 32 := 16#32
  let c4_i32 : BitVec 32 := 4#32
  let c0_i32_627 : BitVec 32 := 0#32
  let c1_i32_629 : BitVec 32 := 1#32
  let arg19 : BitVec 32 := Scf.iv c0_i32_627 c1_i32_629 k0_t3
  let v1838 : BitVec 32 := Scalar.muli c4_i32 arg19
  let v1839 : BitVec 32 := Scalar.addi v1838 c0_i32_1639
  let v1840 : BitVec 32 := Scalar.muli c16_i32 v1839
  let v1841 : BitVec 32 := v1840
  let v1843 : Index := Scalar.indexCast v1841
  ![0, v1843.toNat]
def k0_off14 (k0_t3 : Fin k0_t3_loop.trips) (c0_i32_1639 : BitVec 32) : Fin 2 → Nat :=
  let c1_i32_1641 : BitVec 32 := 1#32
  let v1845 : Index := Scalar.indexCast c1_i32_1641
  let c16_i32 : BitVec 32 := 16#32
  let c4_i32 : BitVec 32 := 4#32
  let c0_i32_627 : BitVec 32 := 0#32
  let c1_i32_629 : BitVec 32 := 1#32
  let arg19 : BitVec 32 := Scf.iv c0_i32_627 c1_i32_629 k0_t3
  let v1838 : BitVec 32 := Scalar.muli c4_i32 arg19
  let v1839 : BitVec 32 := Scalar.addi v1838 c0_i32_1639
  let v1840 : BitVec 32 := Scalar.muli c16_i32 v1839
  let v1841 : BitVec 32 := v1840
  let v1846 : Index := Scalar.indexCast v1841
  ![1, v1846.toNat]
def k0_off15 (k0_t3 : Fin k0_t3_loop.trips) (c0_i32_1639 : BitVec 32) : Fin 2 → Nat :=
  let c2_i32_1642 : BitVec 32 := 2#32
  let v1848 : Index := Scalar.indexCast c2_i32_1642
  let c16_i32 : BitVec 32 := 16#32
  let c4_i32 : BitVec 32 := 4#32
  let c0_i32_627 : BitVec 32 := 0#32
  let c1_i32_629 : BitVec 32 := 1#32
  let arg19 : BitVec 32 := Scf.iv c0_i32_627 c1_i32_629 k0_t3
  let v1838 : BitVec 32 := Scalar.muli c4_i32 arg19
  let v1839 : BitVec 32 := Scalar.addi v1838 c0_i32_1639
  let v1840 : BitVec 32 := Scalar.muli c16_i32 v1839
  let v1841 : BitVec 32 := v1840
  let v1849 : Index := Scalar.indexCast v1841
  ![2, v1849.toNat]
def k0_off16 (k0_t3 : Fin k0_t3_loop.trips) (c0_i32_1639 : BitVec 32) : Fin 1 → Nat :=
  let c16_i32 : BitVec 32 := 16#32
  let c4_i32 : BitVec 32 := 4#32
  let c0_i32_627 : BitVec 32 := 0#32
  let c1_i32_629 : BitVec 32 := 1#32
  let arg19 : BitVec 32 := Scf.iv c0_i32_627 c1_i32_629 k0_t3
  let v1838 : BitVec 32 := Scalar.muli c4_i32 arg19
  let v1839 : BitVec 32 := Scalar.addi v1838 c0_i32_1639
  let v1840 : BitVec 32 := Scalar.muli c16_i32 v1839
  let v1841 : BitVec 32 := v1840
  let v1873 : Index := Scalar.indexCast v1841
  ![v1873.toNat]
def k0_mult18 (k0_t3 : Fin k0_t3_loop.trips) : BitVec 32 :=
  let c16_i32_1648 : BitVec 32 := 16#32
  let c4_i32_1646 : BitVec 32 := 4#32
  let c0_i32_627 : BitVec 32 := 0#32
  let c1_i32_629 : BitVec 32 := 1#32
  let arg19 : BitVec 32 := Scf.iv c0_i32_627 c1_i32_629 k0_t3
  let v1875 : BitVec 32 := Scalar.muli c4_i32_1646 arg19
  let c1_i32_1647 : BitVec 32 := 1#32
  let v1876 : BitVec 32 := Scalar.addi v1875 c1_i32_1647
  let v1877 : BitVec 32 := Scalar.muli c16_i32_1648 v1876
  v1877
def k0_mult19 (k0_t3 : Fin k0_t3_loop.trips) : BitVec 32 :=
  let c16_i32_1663 : BitVec 32 := 16#32
  let c4_i32_1661 : BitVec 32 := 4#32
  let c0_i32_627 : BitVec 32 := 0#32
  let c1_i32_629 : BitVec 32 := 1#32
  let arg19 : BitVec 32 := Scf.iv c0_i32_627 c1_i32_629 k0_t3
  let v1912 : BitVec 32 := Scalar.muli c4_i32_1661 arg19
  let c2_i32_1662 : BitVec 32 := 2#32
  let v1913 : BitVec 32 := Scalar.addi v1912 c2_i32_1662
  let v1914 : BitVec 32 := Scalar.muli c16_i32_1663 v1913
  v1914
def k0_mult20 (k0_t3 : Fin k0_t3_loop.trips) : BitVec 32 :=
  let c16_i32_1678 : BitVec 32 := 16#32
  let c4_i32_1676 : BitVec 32 := 4#32
  let c0_i32_627 : BitVec 32 := 0#32
  let c1_i32_629 : BitVec 32 := 1#32
  let arg19 : BitVec 32 := Scf.iv c0_i32_627 c1_i32_629 k0_t3
  let v1949 : BitVec 32 := Scalar.muli c4_i32_1676 arg19
  let c3_i32_1677 : BitVec 32 := 3#32
  let v1950 : BitVec 32 := Scalar.addi v1949 c3_i32_1677
  let v1951 : BitVec 32 := Scalar.muli c16_i32_1678 v1950
  v1951
def k0_mult21 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_631 : BitVec 32 := 0#32
  let v792 : BitVec 32 := Scalar.addi v1 c0_i32_631
  let c125_i32_632 : BitVec 32 := 125#32
  let v793 : BitVec 1 := Scalar.cmpi .slt v792 c125_i32_632
  let c125_i32_633 : BitVec 32 := 125#32
  let v794 : BitVec 32 := Scalar.subi v792 c125_i32_633
  let v795 : BitVec 32 := Scalar.select v793 v792 v794
  let c8000_i32_634 : BitVec 32 := 8000#32
  let v796 : BitVec 32 := Scalar.muli v795 c8000_i32_634
  v796
def k0_mult22 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_1015 : BitVec 32 := 32#32
  let v1180 : BitVec 32 := Scalar.addi v1 c32_i32_1015
  let c125_i32_1016 : BitVec 32 := 125#32
  let v1181 : BitVec 1 := Scalar.cmpi .slt v1180 c125_i32_1016
  let c125_i32_1017 : BitVec 32 := 125#32
  let v1182 : BitVec 32 := Scalar.subi v1180 c125_i32_1017
  let v1183 : BitVec 32 := Scalar.select v1181 v1180 v1182
  let c8000_i32_1018 : BitVec 32 := 8000#32
  let v1184 : BitVec 32 := Scalar.muli v1183 c8000_i32_1018
  v1184
def k0_mult23 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_1021 : BitVec 32 := 96#32
  let v1190 : BitVec 32 := Scalar.addi v1 c96_i32_1021
  let c125_i32_1022 : BitVec 32 := 125#32
  let v1191 : BitVec 1 := Scalar.cmpi .slt v1190 c125_i32_1022
  let c125_i32_1023 : BitVec 32 := 125#32
  let v1192 : BitVec 32 := Scalar.subi v1190 c125_i32_1023
  let v1193 : BitVec 32 := Scalar.select v1191 v1190 v1192
  let c8000_i32_1024 : BitVec 32 := 8000#32
  let v1194 : BitVec 32 := Scalar.muli v1193 c8000_i32_1024
  v1194
@[reducible] def k0_t4_loop : Scf.Loop 32 :=
  let c0_i32_1038 : BitVec 32 := 0#32
  let c125_i32_1039 : BitVec 32 := 125#32
  let v1220 : BitVec 32 := Scalar.addi c0_i32_1038 c125_i32_1039
  let c1_i32_1040 : BitVec 32 := 1#32
  ⟨c0_i32_1038, v1220, c1_i32_1040⟩
def k0_mult24 (k0_t4 : Fin k0_t4_loop.trips) : BitVec 32 :=
  let c16_i32 : BitVec 32 := 16#32
  let c4_i32 : BitVec 32 := 4#32
  let c0_i32_1038 : BitVec 32 := 0#32
  let c1_i32_1040 : BitVec 32 := 1#32
  let arg19 : BitVec 32 := Scf.iv c0_i32_1038 c1_i32_1040 k0_t4
  let v1838 : BitVec 32 := Scalar.muli c4_i32 arg19
  let c0_i32_1639 : BitVec 32 := 0#32
  let v1839 : BitVec 32 := Scalar.addi v1838 c0_i32_1639
  let v1840 : BitVec 32 := Scalar.muli c16_i32 v1839
  v1840
def k0_off17 (k0_t4 : Fin k0_t4_loop.trips) (c0_i32_1639 : BitVec 32) : Fin 2 → Nat :=
  let c0_i32_1640 : BitVec 32 := 0#32
  let v1842 : Index := Scalar.indexCast c0_i32_1640
  let c16_i32 : BitVec 32 := 16#32
  let c4_i32 : BitVec 32 := 4#32
  let c0_i32_1038 : BitVec 32 := 0#32
  let c1_i32_1040 : BitVec 32 := 1#32
  let arg19 : BitVec 32 := Scf.iv c0_i32_1038 c1_i32_1040 k0_t4
  let v1838 : BitVec 32 := Scalar.muli c4_i32 arg19
  let v1839 : BitVec 32 := Scalar.addi v1838 c0_i32_1639
  let v1840 : BitVec 32 := Scalar.muli c16_i32 v1839
  let v1841 : BitVec 32 := v1840
  let v1843 : Index := Scalar.indexCast v1841
  ![0, v1843.toNat]
def k0_off18 (k0_t4 : Fin k0_t4_loop.trips) (c0_i32_1639 : BitVec 32) : Fin 2 → Nat :=
  let c1_i32_1641 : BitVec 32 := 1#32
  let v1845 : Index := Scalar.indexCast c1_i32_1641
  let c16_i32 : BitVec 32 := 16#32
  let c4_i32 : BitVec 32 := 4#32
  let c0_i32_1038 : BitVec 32 := 0#32
  let c1_i32_1040 : BitVec 32 := 1#32
  let arg19 : BitVec 32 := Scf.iv c0_i32_1038 c1_i32_1040 k0_t4
  let v1838 : BitVec 32 := Scalar.muli c4_i32 arg19
  let v1839 : BitVec 32 := Scalar.addi v1838 c0_i32_1639
  let v1840 : BitVec 32 := Scalar.muli c16_i32 v1839
  let v1841 : BitVec 32 := v1840
  let v1846 : Index := Scalar.indexCast v1841
  ![1, v1846.toNat]
def k0_off19 (k0_t4 : Fin k0_t4_loop.trips) (c0_i32_1639 : BitVec 32) : Fin 2 → Nat :=
  let c2_i32_1642 : BitVec 32 := 2#32
  let v1848 : Index := Scalar.indexCast c2_i32_1642
  let c16_i32 : BitVec 32 := 16#32
  let c4_i32 : BitVec 32 := 4#32
  let c0_i32_1038 : BitVec 32 := 0#32
  let c1_i32_1040 : BitVec 32 := 1#32
  let arg19 : BitVec 32 := Scf.iv c0_i32_1038 c1_i32_1040 k0_t4
  let v1838 : BitVec 32 := Scalar.muli c4_i32 arg19
  let v1839 : BitVec 32 := Scalar.addi v1838 c0_i32_1639
  let v1840 : BitVec 32 := Scalar.muli c16_i32 v1839
  let v1841 : BitVec 32 := v1840
  let v1849 : Index := Scalar.indexCast v1841
  ![2, v1849.toNat]
def k0_off20 (k0_t4 : Fin k0_t4_loop.trips) (c0_i32_1639 : BitVec 32) : Fin 1 → Nat :=
  let c16_i32 : BitVec 32 := 16#32
  let c4_i32 : BitVec 32 := 4#32
  let c0_i32_1038 : BitVec 32 := 0#32
  let c1_i32_1040 : BitVec 32 := 1#32
  let arg19 : BitVec 32 := Scf.iv c0_i32_1038 c1_i32_1040 k0_t4
  let v1838 : BitVec 32 := Scalar.muli c4_i32 arg19
  let v1839 : BitVec 32 := Scalar.addi v1838 c0_i32_1639
  let v1840 : BitVec 32 := Scalar.muli c16_i32 v1839
  let v1841 : BitVec 32 := v1840
  let v1873 : Index := Scalar.indexCast v1841
  ![v1873.toNat]
def k0_mult25 (k0_t4 : Fin k0_t4_loop.trips) : BitVec 32 :=
  let c16_i32_1648 : BitVec 32 := 16#32
  let c4_i32_1646 : BitVec 32 := 4#32
  let c0_i32_1038 : BitVec 32 := 0#32
  let c1_i32_1040 : BitVec 32 := 1#32
  let arg19 : BitVec 32 := Scf.iv c0_i32_1038 c1_i32_1040 k0_t4
  let v1875 : BitVec 32 := Scalar.muli c4_i32_1646 arg19
  let c1_i32_1647 : BitVec 32 := 1#32
  let v1876 : BitVec 32 := Scalar.addi v1875 c1_i32_1647
  let v1877 : BitVec 32 := Scalar.muli c16_i32_1648 v1876
  v1877
def k0_mult26 (k0_t4 : Fin k0_t4_loop.trips) : BitVec 32 :=
  let c16_i32_1663 : BitVec 32 := 16#32
  let c4_i32_1661 : BitVec 32 := 4#32
  let c0_i32_1038 : BitVec 32 := 0#32
  let c1_i32_1040 : BitVec 32 := 1#32
  let arg19 : BitVec 32 := Scf.iv c0_i32_1038 c1_i32_1040 k0_t4
  let v1912 : BitVec 32 := Scalar.muli c4_i32_1661 arg19
  let c2_i32_1662 : BitVec 32 := 2#32
  let v1913 : BitVec 32 := Scalar.addi v1912 c2_i32_1662
  let v1914 : BitVec 32 := Scalar.muli c16_i32_1663 v1913
  v1914
def k0_mult27 (k0_t4 : Fin k0_t4_loop.trips) : BitVec 32 :=
  let c16_i32_1678 : BitVec 32 := 16#32
  let c4_i32_1676 : BitVec 32 := 4#32
  let c0_i32_1038 : BitVec 32 := 0#32
  let c1_i32_1040 : BitVec 32 := 1#32
  let arg19 : BitVec 32 := Scf.iv c0_i32_1038 c1_i32_1040 k0_t4
  let v1949 : BitVec 32 := Scalar.muli c4_i32_1676 arg19
  let c3_i32_1677 : BitVec 32 := 3#32
  let v1950 : BitVec 32 := Scalar.addi v1949 c3_i32_1677
  let v1951 : BitVec 32 := Scalar.muli c16_i32_1678 v1950
  v1951
def k0_mult28 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_1042 : BitVec 32 := 32#32
  let v1221 : BitVec 32 := Scalar.addi v1 c32_i32_1042
  let c125_i32_1043 : BitVec 32 := 125#32
  let v1222 : BitVec 1 := Scalar.cmpi .slt v1221 c125_i32_1043
  let c125_i32_1044 : BitVec 32 := 125#32
  let v1223 : BitVec 32 := Scalar.subi v1221 c125_i32_1044
  let v1224 : BitVec 32 := Scalar.select v1222 v1221 v1223
  let c8000_i32_1045 : BitVec 32 := 8000#32
  let v1225 : BitVec 32 := Scalar.muli v1224 c8000_i32_1045
  v1225
def k0_mult29 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_1426 : BitVec 32 := 64#32
  let v1609 : BitVec 32 := Scalar.addi v1 c64_i32_1426
  let c125_i32_1427 : BitVec 32 := 125#32
  let v1610 : BitVec 1 := Scalar.cmpi .slt v1609 c125_i32_1427
  let c125_i32_1428 : BitVec 32 := 125#32
  let v1611 : BitVec 32 := Scalar.subi v1609 c125_i32_1428
  let v1612 : BitVec 32 := Scalar.select v1610 v1609 v1611
  let c8000_i32_1429 : BitVec 32 := 8000#32
  let v1613 : BitVec 32 := Scalar.muli v1612 c8000_i32_1429
  v1613
def k0_mult30 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_1621 : BitVec 32 := 96#32
  let v1808 : BitVec 32 := Scalar.addi v1 c96_i32_1621
  let c125_i32_1622 : BitVec 32 := 125#32
  let v1809 : BitVec 1 := Scalar.cmpi .slt v1808 c125_i32_1622
  let c125_i32_1623 : BitVec 32 := 125#32
  let v1810 : BitVec 32 := Scalar.subi v1808 c125_i32_1623
  let v1811 : BitVec 32 := Scalar.select v1809 v1808 v1810
  let c8000_i32_1624 : BitVec 32 := 8000#32
  let v1812 : BitVec 32 := Scalar.muli v1811 c8000_i32_1624
  v1812
def k0_mult31 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_1627 : BitVec 32 := 64#32
  let v1818 : BitVec 32 := Scalar.addi v1 c64_i32_1627
  let c125_i32_1628 : BitVec 32 := 125#32
  let v1819 : BitVec 1 := Scalar.cmpi .slt v1818 c125_i32_1628
  let c125_i32_1629 : BitVec 32 := 125#32
  let v1820 : BitVec 32 := Scalar.subi v1818 c125_i32_1629
  let v1821 : BitVec 32 := Scalar.select v1819 v1818 v1820
  let c8000_i32_1630 : BitVec 32 := 8000#32
  let v1822 : BitVec 32 := Scalar.muli v1821 c8000_i32_1630
  v1822
def k0_mult32 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_1633 : BitVec 32 := 96#32
  let v1828 : BitVec 32 := Scalar.addi v1 c96_i32_1633
  let c125_i32_1634 : BitVec 32 := 125#32
  let v1829 : BitVec 1 := Scalar.cmpi .slt v1828 c125_i32_1634
  let c125_i32_1635 : BitVec 32 := 125#32
  let v1830 : BitVec 32 := Scalar.subi v1828 c125_i32_1635
  let v1831 : BitVec 32 := Scalar.select v1829 v1828 v1830
  let c8000_i32_1636 : BitVec 32 := 8000#32
  let v1832 : BitVec 32 := Scalar.muli v1831 c8000_i32_1636
  v1832
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000x3 : Shape := ⟨2, ![1000000, 3]⟩
abbrev S256x256x256 : Shape := ⟨3, ![256, 256, 256]⟩
abbrev S16777216 : Shape := ⟨1, ![16777216]⟩
abbrev S1000000x1 : Shape := ⟨2, ![1000000, 1]⟩
abbrev S1000000 : Shape := ⟨1, ![1000000]⟩
abbrev S_ : Shape := ⟨0, ![]⟩
abbrev S1 : Shape := ⟨1, ![1]⟩
abbrev S1x1 : Shape := ⟨2, ![1, 1]⟩

abbrev nBuf : Space → Nat
  | .hbm => 39
  | .vmem => 0
  | .smem => 0
  | _ => 0

abbrev bufTy : (tb : Table) → Fin (tcTables nBuf tb) → BufTy
  | .hbm, ⟨0, _⟩ => ⟨S1000000x3, .i32⟩
  | .hbm, ⟨1, _⟩ => ⟨S256x256x256, .f32⟩
  | .hbm, ⟨2, _⟩ => ⟨S16777216, .f32⟩
  | .hbm, ⟨3, _⟩ => ⟨S1000000x1, .i32⟩
  | .hbm, ⟨4, _⟩ => ⟨S1000000, .i32⟩
  | .hbm, ⟨5, _⟩ => ⟨S_, .i32⟩
  | .hbm, ⟨6, _⟩ => ⟨S1000000, .i32⟩
  | .hbm, ⟨7, _⟩ => ⟨S1000000, .i32⟩
  | .hbm, ⟨8, _⟩ => ⟨S1000000x1, .i32⟩
  | .hbm, ⟨9, _⟩ => ⟨S1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1000000, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1, .i32⟩
  | .hbm, ⟨26, _⟩ => ⟨S_, .i32⟩
  | .hbm, ⟨27, _⟩ => ⟨S1000000x1, .i32⟩
  | .hbm, ⟨28, _⟩ => ⟨S1000000x1, .i1⟩
  | .hbm, ⟨29, _⟩ => ⟨S1x1, .i32⟩
  | .hbm, ⟨30, _⟩ => ⟨S1000000x1, .i32⟩
  | .hbm, ⟨31, _⟩ => ⟨S1000000x1, .i1⟩
  | .hbm, ⟨32, _⟩ => ⟨S1000000x1, .i1⟩
  | .hbm, ⟨33, _⟩ => ⟨S_, .i1⟩
  | .hbm, ⟨34, _⟩ => ⟨S1000000, .i1⟩
  | .hbm, ⟨35, _⟩ => ⟨S1000000, .f32⟩
  | .hbm, ⟨36, _⟩ => ⟨S_, .f32⟩
  | .hbm, ⟨37, _⟩ => ⟨S1000000, .f32⟩
  | .hbm, ⟨38, _⟩ => ⟨S1000000, .f32⟩
  | _, _ => ⟨S1000000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v13 : Ref sig .tc := ⟨.hbm, 38, rfl⟩

abbrev nD : Nat := 1
abbrev τ : Topo := Topo.v7x

variable {F : FTy → Type} [FloatOps F]
-- ==== Proof.Steps.lean ====
/-
  The task's program as a list of steps. The printed body is one long run of transfers and waits; here each kind of
  step is written once, over the buffers and semaphores of either half of the double buffer, and `seqs` runs a list of
  steps in order.
-/
module

public import proofs.«01_k».proof.KernelIdeal
public import proofs.«01_k».proof.Proof.Gen.KernelIdeal

@[expose] public section

noncomputable section

namespace Cert.Proof.Lookup

open Cert.KernelIdeal Cert.KernelIdeal.Gen
open Idealize.ShloMosaic Idealize.SL.Sem

variable {F : FTy → Type} [FloatOps F]

/-- Programs of the task at coordinates `i`. -/
abbrev PT (F : FTy → Type) [FloatOps F] (i : grid0.Coords) : Type 1 :=
  Prog (TpuEff nD τ sig (Elt F) Λ₀ (.scVector ((i 0).castLE hcore0) ((i 1).castLE hsub0))) PUnit

/-- The steps of a list, in order. -/
def seqs {i : grid0.Coords} : List (PT F i) → PT F i
  | [] => pure ⟨⟩
  | p :: ps => p >>= fun _ => seqs ps

/-- A list of steps in two parts runs part by part. -/
theorem seqs_append {i : grid0.Coords} (ps qs : List (PT F i)) : seqs (ps ++ qs) = seqs ps >>= fun _ => seqs qs := by
  induction ps with
  | nil => rfl
  | cons p ps ih => exact (congrArg (fun r => p >>= fun _ => r) ih).trans (Prog.bind_assoc p _ _).symm

/-- A list of groups runs as the groups joined. -/
theorem seqs_flatten {i : grid0.Coords} (ls : List (List (PT F i))) : seqs (ls.map seqs) = seqs ls.flatten := by
  induction ls with
  | nil => rfl
  | cons l ls ih => exact (congrArg (fun r => seqs l >>= fun _ => r) ih).trans (seqs_append l ls.flatten).symm

variable (i : grid0.Coords) (g : Fin 4)

/-- The word the printed text passes for slot `g`. -/
abbrev gw (g : Fin 4) : BitVec 32 := BitVec.ofNat 32 (32 * g.val)

section Pieces

variable (xt : Memref sig .scVector .hbm S3x1000000 .i32) (tb : Memref sig .scVector .hbm S16777216 .f32)
  (out : Memref sig .scVector .hbm S1000000 .f32) (xb : Memref sig .scVector .vmem S4x8064 .i32)
  (ib : Memref sig .scVector .vmem S8000 .i32) (vb : Memref sig .scVector .vmem S8064 .f32)

/-- Where row `c` of slot `g`'s chunk begins. -/
abbrev xoff : Fin 3 → Fin 2 → ℕ
  | 0 => k0_off1 i (gw g)
  | 1 => k0_off2 i (gw g)
  | 2 => k0_off3 i (gw g)
/-- A copy in reads inside the transposed indices. -/
theorem xoff_inb (c : Fin 3) : ∀ a, xoff i g c a + S1x8000.size a ≤ S3x1000000.size a :=
  match c with
  | 0 => k0_off1_inb i g
  | 1 => k0_off2_inb i g
  | 2 => k0_off3_inb i g
/-- A row of the staging buffer lies inside it. -/
theorem row_inb (c : Fin 3) : ∀ a, (![c.val, 0] : Fin 2 → ℕ) a + S1x8000.size a ≤ S4x8064.size a := by
  intro a; fin_cases a <;> fin_cases c <;> decide

/-- Row `c` of slot `g`'s chunk of `xt`. -/
abbrev xsrc (c : Fin 3) : Memref sig .scVector .hbm S8000 .i32 :=
  (xt.slice (Rect.unit (s := S3x1000000) (xoff i g c) S1x8000.size (xoff_inb i g c)) (fun _ => rfl)).squeeze S8000 squeezes_S1x8000_S8000

/-- The first 8000 words of row `c` of the staging buffer. -/
abbrev xdst (c : Fin 3) : Memref sig .scVector .vmem S8000 .i32 :=
  (xb.slice (Rect.unit (s := S4x8064) ![c.val, 0] S1x8000.size (row_inb c)) (fun _ => rfl)).squeeze S8000 squeezes_S1x8000_S8000

/-- Stretch `n` of 128 lies inside the buffer of results. -/
theorem inb128 (n : Fin 62) : ∀ a, (![128 * n.val] : Fin 1 → ℕ) a + S128.size a ≤ S8064.size a := by
  intro a; fin_cases a; simp [S8064, S128]; omega
/-- Stretch `n` of 128 lies inside the list. -/
theorem inb128' (n : Fin 62) : ∀ a, (![128 * n.val] : Fin 1 → ℕ) a + S128.size a ≤ S8000.size a := by
  intro a; fin_cases a; simp [S8000, S128]; omega

/-- The `n`-th 128 of the gathered values, and of the list. -/
abbrev vdst (n : Fin 62) : Memref sig .scVector .vmem S128 .f32 :=
  vb.slice (Rect.unit (s := S8064) ![128 * n.val] S128.size (inb128 n)) (fun _ => rfl)
/-- Stretch `n` of 128 of the list. -/
abbrev ilst (n : Fin 62) : Memref sig .scVector .vmem S128 .i32 :=
  ib.slice (Rect.unit (s := S8000) ![128 * n.val] S128.size (inb128' n)) (fun _ => rfl)
/-- The last 64 of the gathered values, and of the list. -/
abbrev vtail : Memref sig .scVector .vmem S64 .f32 := vb.slice (Rect.unit (s := S8064) ![7936] S64.size inb_S8064_S64_7936) (fun _ => rfl)
/-- The last 64 entries of the list. -/
abbrev itail : Memref sig .scVector .vmem S64 .i32 := ib.slice (Rect.unit (s := S8000) ![7936] S64.size inb_S8000_S64_7936) (fun _ => rfl)
/-- The table, all of it. -/
abbrev tsrc : Memref sig .scVector .hbm S16777216 .f32 :=
  tb.slice (Rect.unit (s := S16777216) ![0] S16777216.size inb_S16777216_S16777216_0) (fun _ => rfl)
/-- The first 8000 gathered values, and slot `g`'s chunk of the output. -/
abbrev vsrc : Memref sig .scVector .vmem S8000 .f32 := vb.slice (Rect.unit (s := S8064) ![0] S8000.size inb_S8064_S8000_0) (fun _ => rfl)
/-- The chunk's rows of the output. -/
abbrev odst : Memref sig .scVector .hbm S8000 .f32 :=
  out.slice (Rect.unit (s := S1000000) (k0_off12 i (gw g)) S8000.size (k0_off12_inb i g)) (fun _ => rfl)

end Pieces

/-! ## The steps -/

section Ops

variable (xt : Memref sig .scVector .hbm S3x1000000 .i32) (tb : Memref sig .scVector .hbm S16777216 .f32)
  (out : Memref sig .scVector .hbm S1000000 .f32) (xb : Memref sig .scVector .vmem S4x8064 .i32)
  (ib : Memref sig .scVector .vmem S8000 .i32) (vb : Memref sig .scVector .vmem S8064 .f32) (sem : DmaSems sig S_)

/-- A row of the indices is whole words. -/
theorem xsrc_exact (c : Fin 3) : (xsrc i g xt c).view.WordExact := by
  exact (View.wordExact_bits rfl).reshape _ _
/-- So is a row of the staging buffer. -/
theorem xdst_exact (c : Fin 3) : (xdst xb c).view.WordExact := by
  exact (View.wordExact_bits rfl).reshape _ _

/-- Start the copy of row `c`; wait for one. -/
def xStart (c : Fin 3) : PT F i :=
  Prog.lift (.enqueueDma (xsrc i g xt c) (.here (xdst xb c)) (.dma sem.sem) (xsrc_exact i g xt c) (xdst_exact xb c) ⟨Or.inl rfl, trivial⟩)
/-- The wait for the copy in of row `c`. -/
def xWait (c : Fin 3) : PT F i :=
  Prog.lift (.waitDma2 sem.sem (xsrc i g xt c) (xdst xb c) (xsrc_exact i g xt c) (xdst_exact xb c))

/-- Start the `n`-th gather of 128; wait for one; the same for the last 64. -/
def gStart (n : Fin 62) : PT F i :=
  SparseCore.enqueueIndirectGather rfl (tsrc tb) (vdst vb n) gathers_S16777216_S128 (ilst ib n) rfl sem.sem (View.wordExact_bits rfl) rfl (Or.inl rfl)
/-- The wait for gather `n`. -/
def gWait (n : Fin 62) : PT F i :=
  SparseCore.waitIndirectGather sem.sem (tsrc tb) (vdst vb n) (View.wordExact_bits rfl) (View.wordExact_bits rfl)
/-- The start of the last gather. -/
def tStart : PT F i :=
  SparseCore.enqueueIndirectGather rfl (tsrc tb) (vtail vb) gathers_S16777216_S64 (itail ib) rfl sem.sem (View.wordExact_bits rfl) rfl (Or.inl rfl)
/-- The wait for it. -/
def tWait : PT F i :=
  SparseCore.waitIndirectGather sem.sem (tsrc tb) (vtail vb) (View.wordExact_bits rfl) (View.wordExact_bits rfl)

/-- Start the copy of the chunk out; wait for it. -/
def oStart : PT F i :=
  Prog.lift (.enqueueDma (vsrc vb) (.here (odst i g out)) (.dma sem.sem) (View.wordExact_bits rfl) (View.wordExact_bits rfl) ⟨Or.inl rfl, trivial⟩)
/-- The wait for the copy out. -/
def oWait : PT F i :=
  Prog.lift (.waitDma2 sem.sem (vsrc vb) (odst i g out) (View.wordExact_bits rfl) (View.wordExact_bits rfl))

/-! ## The index computation -/

/-- The printed index arithmetic on sixteen lanes. -/
def lanes (a b k : Vec F S16 .i32) : Vec F S16 .i32 :=
  andi (ori (ori (ori (ori (shli a (broadcast S16 16#32))
    (shli (andi b (broadcast S16 4294967288#32)) (broadcast S16 8#32)))
    (shli (andi b (broadcast S16 7#32)) (broadcast S16 7#32)))
    (shli (andi k (broadcast S16 128#32)) (broadcast S16 3#32)))
    (andi k (broadcast S16 127#32))) (broadcast S16 16777215#32)

/-- One sixteen-lane step: three rows of the staging buffer read, the indices stored. -/
def laneStep (t : Fin k0_t1_loop.trips) (r : Fin 4) : PT F i := do
  let a : Vec F S1x16 .i32 ← Prog.lift (.load xb (Rect.unit (s := S4x8064) (k0_off4 t (BitVec.ofNat 32 r.val)) S1x16.size (k0_off4_inb t r)).toLoadRect (View.loadsAt_vmem h_S1x16))
  let b : Vec F S1x16 .i32 ← Prog.lift (.load xb (Rect.unit (s := S4x8064) (k0_off5 t (BitVec.ofNat 32 r.val)) S1x16.size (k0_off5_inb t r)).toLoadRect (View.loadsAt_vmem h_S1x16))
  let k : Vec F S1x16 .i32 ← Prog.lift (.load xb (Rect.unit (s := S4x8064) (k0_off6 t (BitVec.ofNat 32 r.val)) S1x16.size (k0_off6_inb t r)).toLoadRect (View.loadsAt_vmem h_S1x16))
  let _ : Vec F S16 .i32 ← Prog.lift (.load ib (Rect.unit (s := S8000) (k0_off7 t (BitVec.ofNat 32 r.val)) S16.size (k0_off7_inb t r)).toLoadRect (View.loadsAt_vmem h_S16))
  Prog.lift (.store ib (Rect.unit (s := S8000) (k0_off7 t (BitVec.ofNat 32 r.val)) S16.size (k0_off7_inb t r))
    (lanes (shapeCast S16 a shapeCasts_S1x16_S16) (shapeCast S16 b shapeCasts_S1x16_S16) (shapeCast S16 k shapeCasts_S1x16_S16))
    Finset.univ (View.stores_vmem_bits_univ h_S16 rfl) (.inl rfl))

/-- The loop over the chunk: four steps a trip. -/
def chunkLoop : PT F i :=
  Scf.Loop.for k0_t1_loop k0_t1_ok ⟨⟩ fun t _ => seqs [laneStep i xb ib t 0, laneStep i xb ib t 1, laneStep i xb ib t 2, laneStep i xb ib t 3]

/-! ## Groups of steps -/

/-- The starts of the three copies in. -/
def xStarts : List (PT F i) := [xStart i g xt xb sem 0, xStart i g xt xb sem 1, xStart i g xt xb sem 2]
/-- The waits for them. -/
def xWaits : List (PT F i) := [xWait i g xt xb sem 0, xWait i g xt xb sem 1, xWait i g xt xb sem 2]

variable (sem' : DmaSems sig S_)

/-- One step for each of the 62 gathers. -/
def each62 (f : Fin 62 → PT F i) : List (PT F i) := List.ofFn f
/-- The 62 gathers, and the one of 64. -/
def gStarts : List (PT F i) := each62 i (gStart i tb ib vb sem) ++ [tStart i tb ib vb sem']
/-- The waits for the 63 gathers of a chunk. -/
def gWaits : List (PT F i) := each62 i (gWait i tb vb sem) ++ [tWait i tb vb sem']

end Ops

end Cert.Proof.Lookup
-- ==== Proof.Gather.lean ====
/-
  Gathers started one after another on one semaphore before any is waited for. Each gather is a stream of single rows,
  so all the rows of all the gathers are the transfers of one batch: a gather of `o` rows issues the batch's next `o`
  transfers. The waits then take `o` rows' credit each, and the last of them hands back every row.
-/
module

public import Idealize.ShloMosaic.Lib.SparseCore.Stream
public import Idealize.ShloMosaic.Lib.SparseCore.Ops
public import Idealize.ShloMosaic.Lib.Batch
public import Idealize.ShloMosaic.Lib.Tactic

@[expose] public section

noncomputable section

namespace Cert.Proof.Lookup

open Idealize.ShloMosaic Idealize.ShloMosaic.SparseCore
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Ix : Type} [DecidableEq Ix]
variable {F : FTy → Type} {Name : Type} [DecidableEq Name] {U : Type} [URA U] {Lvl : Type}

local notation "𝕄" => MT nD τ sig Ix (Elt F) Name U Lvl

/-- The transfers still to issue from `a` on are the next `b` of them and those from `a + b` on. -/
theorem pending_next {n : ℕ} (Φ : Fin n → sProp 𝕄) (a b : ℕ) (h : a + b ≤ n) :
    bigSep (pending a) Φ = iprop((bigSep Finset.univ fun j : Fin b => Φ ⟨a + j.val, by omega⟩) ∗ bigSep (pending (a + b)) Φ) := by
  induction b generalizing a with
  | zero =>
    rw [show (Finset.univ : Finset (Fin 0)) = ∅ from rfl, bigSep_empty]
    exact (Entails.antisymm emp_sep.1 emp_sep.2).symm
  | succ b ih =>
    rw [bigSep_pending_step Φ a (by omega), ih (a + 1) (by omega), bigSep_univ_succ]
    have e : (fun j : Fin b => Φ ⟨a + 1 + j.val, by omega⟩) = fun j : Fin b => Φ ⟨a + (j.succ).val, by have := j.isLt; simp; omega⟩ :=
      funext fun j => congrArg Φ (Fin.ext (by simp; omega))
    have e₀ : Φ ⟨a, by omega⟩ = Φ ⟨a + (0 : Fin (b + 1)).val, by simp; omega⟩ := congrArg Φ (Fin.ext (by simp))
    rw [e, show a + 1 + b = a + (b + 1) by omega, e₀]
    exact (equiv_iff.mp ⟨BI.sep_assoc, BI.sep_assoc'⟩).symm

variable [Preorder Lvl] {Λ : Labels} {defs : Defs nD τ sig (Elt F) Λ}
  (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- Starting a gather as the next rows of a batch. Each row's delivery is the destination's row written with the
    source's row the list names, and the list's entry back. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (hs : 0 < s.numel) (hin : ∀ x, (offs.view.read (Elt F) fo x).toNat < s₀.size hg.axis)
    {n : ℕ} {D : Fin n → sProp 𝕄} {j₀ u o : ℕ} (ho : s.size hg.axis' = o) (hj : j₀ + o ≤ n) (hu : u ≤ j₀ * N)
    (hD : ∀ j : Fin (s.size hg.axis'),
      iprop((dst.view.loc c ↦[(dst.view.slice (s.rowRect hg.axis' j)).set]{fullShare}
              ((dst.view.slice (s.rowRect hg.axis' j)).write (Elt F) fd
                (fun i => src.view.read (Elt F) fs (hg.rowIdx (rows (offs.view.read (Elt F) fo) hn hin j) i)) Finset.univ))
          ∗ (offs.view.loc c ↦[{offs.view.emb (si.rowMajor.symm (j.cast hn.symm))}]{qo} fo))
        ⊢ D ⟨j₀ + j.val, by have := j.isLt; omega⟩) :
    iprop((src.view.loc c ↦[src.view.set]{q} fs) ∗ (dst.view.loc c ↦[dst.view.set]{fullShare} fd)
        ∗ (offs.view.loc c ↦[offs.view.set]{qo} fo) ∗ Batch EC c (.dma sem) ι N D j₀ u)
      ⊢ iprop((Batch EC c (.dma sem) ι N D (j₀ + o) u -∗ wp frame (wpE defs 𝒱 c bd) Set.univ (k ⟨⟩) Q)
          -∗ wp frame (wpE defs 𝒱 c bd) Set.univ (enqueueIndirectGather hp src dst hg offs hn sem hsrc he hsp hr >>= k) Q) := by
  subst ho
  rw [enqueueIndirectGather_bind]
  have hpos : 0 < s.size hg.axis' := Shape.size_pos_of_numel_pos hs _
  let row : Fin (s.size hg.axis') → RowDma τ sig (Elt F) c.2 sem := fun j =>
    gatherRow c src dst hg sem hsrc he hsp hr j (rows (offs.view.read (Elt F) fo) hn hin j)
  have hagree : (Stream.issued c offs.view hn sem (fun j (w : Elt F .i32) => (rowOf (F := F) (s₀.size hg.axis) w).map (gatherRow c src dst hg sem hsrc he hsp hr j)) 0).RowsAgree := by
    intro j x x' ρ ρ' h h'
    obtain ⟨_, _, rfl⟩ := Option.map_eq_some_iff.mp h
    obtain ⟨_, _, rfl⟩ := Option.map_eq_some_iff.mp h'
    rfl
  have hrow : ∀ j, (rowOf (F := F) (s₀.size hg.axis) (offs.view.read (Elt F) fo (si.rowMajor.symm (Fin.cast hn.symm j)))).map (gatherRow c src dst hg sem hsrc he hsp hr j)
      = some (row j) := fun j => by
    rw [rowOf_of_lt (hin _)]; rfl
  have hbij : Function.Bijective fun j : Fin (s.size hg.axis') => si.rowMajor.symm (Fin.cast hn.symm j) :=
    si.rowMajor.symm.bijective.comp (finCongr hn.symm).bijective
  have hsum : ∑ j, (row j).dst.view.dmaCredit = s.size hg.axis' * N := by
    rw [Finset.sum_congr rfl fun j _ => hN j, Finset.sum_const, Finset.card_univ, Fintype.card_fin, smul_eq_mul]
  have hissue : ∀ (γ : Fin n → ℕ) (γ₀ : ℕ) (κ : Name) (j : Fin (s.size hg.axis')),
      iprop(inv κ (batchBody EC (c, SemLoc.dma sem) N D γ γ₀)
          ∗ ((((dst.view.loc c ↦[(dst.view.slice (s.rowRect hg.axis' j)).set]{fullShare} fd)
              ∗ (offs.view.loc c ↦[{offs.view.emb (si.rowMajor.symm (j.cast hn.symm))}]{qo} fo))
            ∗ (src.view.loc c ↦[src.view.set]{pieceOf q _ hpos j} fs)) ∗ count EC (γ ⟨j₀ + j.val, by have := j.isLt; omega⟩) 0))
        ⊢ iprop((offs.view.loc c ↦[{offs.view.emb (si.rowMajor.symm (j.cast hn.symm))}]{qo} fo)
          ∗ ((offs.view.loc c ↦[{offs.view.emb (si.rowMajor.symm (j.cast hn.symm))}]{qo} fo) -∗ rowRes c (row j))) := fun γ γ₀ κ j => by
    iintro ⟨#Hinv, ⟨⟨Hr, He⟩, Hsq⟩, Hγ⟩
    isplitl [He]; · iexact He
    iintro He
    unfold rowRes
    iexists pieceOf q _ hpos j, fs, iprop((dst.view.loc c ↦[(dst.view.slice (s.rowRect hg.axis' j)).set]{fullShare}
              ((dst.view.slice (s.rowRect hg.axis' j)).write (Elt F) fd
                (fun i => src.view.read (Elt F) fs (hg.rowIdx (rows (offs.view.read (Elt F) fo) hn hin j) i)) Finset.univ))
          ∗ (offs.view.loc c ↦[{offs.view.emb (si.rowMajor.symm (j.cast hn.symm))}]{qo} fo))
    isplitl [Hsq]; · iexact Hsq
    isplitl [Hr He]
    · iapply writeUpdate_frame
      isplitl [Hr]
      · iapply (pointsTo_writeUpdate c (v := dst.view.slice (s.rowRect hg.axis' j)) subset_rfl) $$ Hr
      · iexact He
    · iapply ((batch_creditUpdate EC ⟨j₀ + j.val, by have := j.isLt; omega⟩ (sep_elim_left.trans (hD j))).trans
        (Entails.of_eq (congrArg (fun M => creditUpdate (c, SemLoc.dma sem) M 0 _) (hN j).symm)))
      isplitr; · iexact Hinv
      iexact Hγ
  unfold Batch
  iintro ⟨Hs, Hd, Ho, ⟨%γ, %γ₀, %κ, #Hinv, Hpend, H0, Hcred⟩⟩ Hk
  ihave Hp := (Entails.of_eq (pending_next (F := F) (fun t => count EC (γ t) 0) j₀ (s.size hg.axis') hj)) $$ Hpend
  icases Hp with ⟨Hnow, Hlater⟩
  ihave Hd' := (Entails.of_eq (pointsTo_rows c dst.view hg.axis' fullShare fd)) $$ Hd
  ihave Ho' := (Entails.of_eq (pointsTo_entries c offs.view _ hbij qo fo)) $$ Ho
  ihave Hs' := (Entails.of_eq (pointsTo_piecesOf (src.view.set) fs hpos q)) $$ Hs
  iapply (wp_enqueueIndirectDma 𝒱 c bd Set.univ (qo := qo) (fo := fo) (rd := row) ι _ hagree hrow hsum) $$ [Hd' Ho' Hs' Hnow]
  · unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hnow]; · isplitl [H2] <;> iassumption
    iapply (bigSep_mono_pers Finset.univ _ _ _ fun j _ => hissue γ γ₀ κ j)
    isplitr; · iexact Hinv
    iexact H3
  · iintro Hnew
    iapply Hk
    iexists γ, γ₀, κ
    isplitr; · iexact Hinv
    isplitl [Hlater]; · iexact Hlater
    isplitl [H0]; · iexact H0
    rw [show (j₀ + s.size hg.axis') * N - u = (j₀ * N - u) + s.size hg.axis' * N by rw [Nat.add_mul]; omega, ← tallyAt_add]
    icombine Hcred Hnew as H
    iexact H

end Cert.Proof.Lookup
-- ==== Proof.Base.lean ====
/-
  The setting of the proof: the program as the launch theorem sees it, the resources, and how a list of steps is run
  group by group.
-/
module

public import proofs.«01_k».proof.Defs
public import proofs.«01_k».proof.Proof.Steps
public import proofs.«01_k».proof.Proof.Gather
public import Idealize.ShloMosaic.Lib.SparseCore.Quiescent
public import Idealize.ShloMosaic.Lib.WriteMode
public import Idealize.ShloMosaic.Lib.StableHlo.Run
public import Idealize.ShloMosaic.Lib.Pipeline.Kit

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-! ## The program and the resources -/

/-- The labels of the program: its own, and no TensorCore call beside them. -/
abbrev ΛP : Labels := Pipeline.Sig Λ₀ (Fin 0) fun p => (pcfgs (F := F) p).Adm
/-- The one SparseCore launch. -/
abbrev K : SparseCore.Cfg τ sig (ΛP (F := F)) 1 := sc (F := F)
/-- No loop of the program needs a variant. -/
abbrev 𝒱₀ : Variants := Variants.none

/-- The handshakes' rounds, the write-mode cells of the output, the transfers' counters. -/
abbrev UH : Type := URounds (GSem nD τ sig) ℕ
/-- The ghost state: the handshakes, the write mode and the counters. -/
abbrev UU (F : FTy → Type) : Type := UH × (WmRA nD τ sig (Elt F) × Counters)

/-- The state that the assertions speak of. -/
abbrev MM (F : FTy → Type) : Type := MT nD τ sig (HIx 1) (Elt F) ℕ (UU F) ℕ
local notation "𝕄" => MT nD τ sig (HIx 1) (Elt F) ℕ (UU F) ℕ

/-- The component of the handshakes. -/
abbrev EH : Emb UH (MT nD τ sig (HIx 1) (Elt F) ℕ (UU F) ℕ) := embL
/-- The write-mode component. -/
abbrev WE : UEmb (WmRA nD τ sig (Elt F)) (UU F) := UEmb.inl.trans UEmb.inr
/-- The counters' component. -/
abbrev EC : UEmb Counters (MT nD τ sig (HIx 1) (Elt F) ℕ (UU F) ℕ) := countersEmb

/-- The vector subcore the task of coordinates `i` runs on. -/
abbrev thr (d : Dev nD) (i : grid0.Coords) : Thread nD τ := V d ((i 0).castLE hcore0) ((i 1).castLE hsub0)

variable (d : Dev nD) (i : grid0.Coords)

/-- The waits index every transfer of the task uses. -/
abbrev ιw : HIx 1 := default

/-- What the task still owes, its own waits recorded. -/
def Ow (O : CellTallies nD τ sig (HIx 1)) (W : Waits sig (HIx 1)) : sProp 𝕄 :=
  iprop(∃ W', ⌜∀ p ∈ W', p ∈ W ∨ p.2 = none⌝ ∗ owes (thr d i) O W')

/-- The task's right to wait. -/
abbrev Mw (O : CellTallies nD τ sig (HIx 1)) : sProp 𝕄 := MayWaits (thr d i) (ιw) O

section Run

variable [FloatOps F]

/-- The weakest precondition of a piece of the task. -/
abbrev WPT {α : Type} (p : Prog (TpuEff nD τ sig (Elt F) Λ₀ (thr d i).2) α) (Q : α → sProp 𝕄) : sProp 𝕄 :=
  wp frame (wpE (defs₀ (F := F)) 𝒱₀ (thr d i) none) Set.univ p Q

/-- A group of steps at the head of the task: run it, then go on from what it leaves. -/
theorem run_group {P Q R : sProp 𝕄} {g : List (PT F i)} {gs : List (PT F i)}
    (h : P ⊢ WPT d i (seqs g) fun _ => Q) :
    P ⊢ iprop((Q -∗ WPT d i (seqs gs) fun _ => R) -∗ WPT d i (seqs (seqs g :: gs)) fun _ => R) := by
  have e : WPT d i (seqs (seqs g :: gs)) (fun _ => R) = WPT d i (seqs g) fun _ => WPT d i (seqs gs) fun _ => R := wp_bind ..
  rw [e]
  iintro HP HK
  iapply (wp_wand_r frame)
  isplitl [HP]
  · iapply h $$ HP
  · iintro %_ HQ
    iapply HK $$ HQ

/-- One step at the head of a group. -/
theorem run_step {P Q R : sProp 𝕄} {p : PT F i} {ps : List (PT F i)}
    (h : P ⊢ WPT d i p fun _ => Q) (h' : Q ⊢ WPT d i (seqs ps) fun _ => R) :
    P ⊢ WPT d i (seqs (p :: ps)) fun _ => R := by
  have e : WPT d i (seqs (p :: ps)) (fun _ => R) = WPT d i p fun _ => WPT d i (seqs ps) fun _ => R := wp_bind ..
  rw [e]
  exact h.trans (wp_mono frame _ _ fun _ => h')

/-- One step at the head of a group, from its resources alone. -/
theorem run_cons {P Q R : sProp 𝕄} {p : PT F i} {ps : List (PT F i)} (h : P ⊢ WPT d i p fun _ => Q) :
    P ⊢ iprop((Q -∗ WPT d i (seqs ps) fun _ => R) -∗ WPT d i (seqs (p :: ps)) fun _ => R) := by
  have e : WPT d i (seqs (p :: ps)) (fun _ => R) = WPT d i p fun _ => WPT d i (seqs ps) fun _ => R := wp_bind ..
  rw [e]
  iintro HP HK
  iapply (wp_wand_r frame)
  isplitl [HP]
  · iapply h $$ HP
  · iintro %_ HQ
    iapply HK $$ HQ

/-- No step left. -/
theorem run_nil {P : sProp 𝕄} : P ⊢ WPT d i (seqs []) fun _ => P := by
  have e : WPT d i (seqs []) (fun _ => P) = iprop(|={Set.univ}=> P) := wp_ret ..
  rw [e]
  iintro H; imodintro; iexact H

/-- A step alone. -/
theorem run_last {P Q : sProp 𝕄} {p : PT F i} (h : P ⊢ WPT d i p fun _ => Q) : P ⊢ WPT d i (seqs [p]) fun _ => Q :=
  run_step d i h (run_nil d i)

/-- A list of steps, one per index, each taking `I k` to `I (k + 1)`. -/
theorem run_each {n : ℕ} (f : Fin n → PT F i) (I : ℕ → sProp 𝕄)
    (h : ∀ k : Fin n, I k ⊢ WPT d i (f k) fun _ => I (k.val + 1)) :
    I 0 ⊢ WPT d i (seqs (List.ofFn f)) fun _ => I n := by
  induction n generalizing I with
  | zero => exact run_nil d i
  | succ n ih =>
    rw [List.ofFn_succ]
    exact run_step d i (h 0) (ih (fun k => f k.succ) (fun k => I (k + 1)) fun k => h k.succ)

/-- Two lists of steps. -/
theorem run_append {P Q R : sProp 𝕄} {ps qs : List (PT F i)}
    (h : P ⊢ WPT d i (seqs ps) fun _ => Q) (h' : Q ⊢ WPT d i (seqs qs) fun _ => R) :
    P ⊢ WPT d i (seqs (ps ++ qs)) fun _ => R := by
  rw [seqs_append]
  have e : WPT d i (seqs ps >>= fun _ => seqs qs) (fun _ => R) = WPT d i (seqs ps) fun _ => WPT d i (seqs qs) fun _ => R := wp_bind ..
  rw [e]
  exact h.trans (wp_mono frame _ _ fun _ => h')

/-! ## Waits that keep the record -/

variable {O : CellTallies nD τ sig (HIx 1)} {W : Waits sig (HIx 1)}

/-- One more wait of the program kept within what a tile may owe. -/
theorem Ow_insert {W' : Waits sig (HIx 1)} (h : ∀ p ∈ W', p ∈ W ∨ p.2 = none) (sm : SemLoc sig) :
    (owes (thr d i) O (insert (sm, (ιw : HIx 1)) W') : sProp 𝕄) ⊢ Ow d i O W := by
  unfold Ow
  iintro H
  iexists _
  isplitr; swap; · iexact H
  ipureintro
  intro p hp
  rcases Finset.mem_insert.mp hp with hp | hp
  · exact .inr (hp ▸ rfl)
  · exact h p hp

variable {sp sp' : Space} {s s' : Shape} {e e' : EltTy} {κ' : Kind} {sem : DmaSem sig}
  {srcw : Memref sig (thr d i).2.kind sp' s' e'} {dstw : Memref sig κ' sp s e} {hsrc : srcw.view.WordExact} {hdst : dstw.view.WordExact}

/-- A wait for `q` of a batch's transfers, not the last. -/
theorem wait_some {N n : ℕ} (q : ℕ) (hJ : dstw.view.dmaCredit = q * N) {D : Fin n → sProp 𝕄} {j u : ℕ} (hu : u + q * N ≤ N * j) :
    iprop(Batch (EC (F := F)) (thr d i) (.dma sem) ιw N D j u ∗ Ow d i O W ∗ Mw d i O)
      ⊢ WPT d i (Prog.lift (.waitDma2 sem srcw dstw hsrc hdst)) fun _ =>
          iprop(Batch (EC (F := F)) (thr d i) (.dma sem) ιw N D j (u + q * N) ∗ Ow d i O W ∗ Mw d i O) := by
  iintro ⟨HB, HO, #Hm⟩
  ihave HO := (Entails.of_eq (show Ow d i O W = iprop(∃ W', ⌜∀ p ∈ W', p ∈ W ∨ p.2 = none⌝ ∗ owes (thr d i) O W') from rfl)) $$ HO
  icases HO with ⟨%W', %hW', HO⟩
  iapply (wp_waitBatchMulO EC 𝒱₀ (thr d i) none ιw q hJ hu) $$ [HB HO]
  · isplitl [HB]; · iexact HB
    isplitl [HO]; · iexact HO
    iapply (MayWaits.elim (SemLoc.dma sem)) $$ Hm
  iintro ⟨HB, HO⟩
  iapply (Entails.of_eq (wp_ret ..).symm)
  imodintro
  isplitl [HB]; · iexact HB
  isplitl [HO]
  · iapply (Ow_insert d i hW' (SemLoc.dma sem)) $$ HO
  · iexact Hm

/-- The wait that drains a batch. -/
theorem wait_last {N n J : ℕ} (hJ : dstw.view.dmaCredit = J) (hN0 : 0 < N) {D : Fin n → sProp 𝕄} {u : ℕ} (hu : u + J = N * n) :
    iprop(Batch (EC (F := F)) (thr d i) (.dma sem) ιw N D n u ∗ Ow d i O W ∗ Mw d i O)
      ⊢ WPT d i (Prog.lift (.waitDma2 sem srcw dstw hsrc hdst)) fun _ =>
          iprop(bigSep Finset.univ D ∗ semVal (thr d i, .dma sem) 0 ∗ Ow d i O W ∗ Mw d i O) := by
  iintro ⟨HB, HO, #Hm⟩
  ihave HO := (Entails.of_eq (show Ow d i O W = iprop(∃ W', ⌜∀ p ∈ W', p ∈ W ∨ p.2 = none⌝ ∗ owes (thr d i) O W') from rfl)) $$ HO
  icases HO with ⟨%W', %hW', HO⟩
  iapply (wp_waitBatchAllO EC 𝒱₀ (thr d i) none ιw hJ hN0 hu) $$ [HB HO]
  · isplitl [HB]; · iexact HB
    isplitl [HO]; · iexact HO
    iapply (MayWaits.elim (SemLoc.dma sem)) $$ Hm
  iintro ⟨HD, Hs, HO⟩
  iapply (Entails.of_eq (wp_ret ..).symm)
  imodintro
  isplitl [HD]; · iexact HD
  isplitl [Hs]; · iexact Hs
  isplitl [HO]
  · iapply (Ow_insert d i hW' (SemLoc.dma sem)) $$ HO
  · iexact Hm

end Run

/-! ## Shares one may keep dealing from -/

/-- Some share of `I` of a buffer, at contents `f`: for what is only read. -/
def Some {ℓ : Loc nD τ sig} (I : Finset (Idx ℓ)) (f : Buf (Elt F) ℓ) : sProp 𝕄 := iprop(∃ q, ℓ ↦[I]{q} f)

/-- Of a share of unknown size a part may be taken, and a share is left. -/
theorem Some_split {ℓ : Loc nD τ sig} (I : Finset (Idx ℓ)) (f : Buf (Elt F) ℓ) :
    (Some I f : sProp 𝕄) ⊢ iprop((∃ q, ℓ ↦[I]{q} f) ∗ Some I f) := by
  unfold Some
  iintro ⟨%q, H⟩
  ihave H' := (pointsTo_share (PosShare.mem_left_op_right q)).1 $$ H
  icases H' with ⟨H1, H2⟩
  isplitl [H1]
  · iexists q.left; iexact H1
  · iexists q.right; iexact H2

end Cert.Proof.Lookup
-- ==== Proof.Copies.lean ====
/-
  A chunk's three rows fetched into a staging buffer: three transfers started on one semaphore, then waited for. What
  the staging buffer then holds is told row by row, as what the transfer read.
-/
module

public import proofs.«01_k».proof.Proof.Base

@[expose] public section

noncomputable section

namespace Cert.Proof.Lookup

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

local notation "𝕄" => MT nD τ sig (HIx 1) (Elt F) ℕ (UU F) ℕ

variable (d : Dev nD) (i : grid0.Coords)
variable {O : CellTallies nD τ sig (HIx 1)} {W : Waits sig (HIx 1)}
variable {xt : Memref sig .scVector .hbm S3x1000000 .i32} {xb : Memref sig .scVector .vmem S4x8064 .i32} {sem : DmaSems sig S_}
variable (fx : Buf (Elt F) (xt.view.loc (thr d i)))

/-- Row `c` of slot `g`'s chunk, as read off the input. -/
abbrev xrow (g : Fin 4) (c : Fin 3) : S8000.Idx → Elt F .i32 := (xsrc i g xt c).view.read (Elt F) fx

/-- The staging buffer idle. -/
def XFree (xb : Memref sig .scVector .vmem S4x8064 .i32) (sem : DmaSems sig S_) : sProp 𝕄 :=
  iprop(∃ f : Buf (Elt F) (xb.view.loc (thr d i)), (xb.view.loc (thr d i) ↦[xb.view.set]{fullShare} f) ∗ semVal (thr d i, .dma sem.sem) 0)

/-- What transfer `c` leaves. -/
abbrev xleft (xb : Memref sig .scVector .vmem S4x8064 .i32) (g : Fin 4) (f : Buf (Elt F) (xb.view.loc (thr d i))) (c : Fin 3) :
    Buf (Elt F) (xb.view.loc (thr d i)) :=
  (xdst xb c).view.write (Elt F) f (xrow d i fx g c) Finset.univ

/-- The cells that hold row `c` of the staged indices. -/
abbrev xset (xb : Memref sig .scVector .vmem S4x8064 .i32) (c : Fin 3) : Finset (Idx (xb.view.loc (thr d i))) := (xdst xb c).view.set

/-- The three transfers in flight, `k` of them issued and `u` units waited for. -/
abbrev XFly (N : ℕ) (xb : Memref sig .scVector .vmem S4x8064 .i32) (sem : DmaSems sig S_) (g : Fin 4) (k u : ℕ)
    (f : Buf (Elt F) (xb.view.loc (thr d i))) : sProp 𝕄 :=
  Batch (EC (F := F)) (thr d i) (.dma sem.sem) ιw N (fun c => (xb.view.loc (thr d i) ↦[xset d i xb c]{fullShare} xleft d i fx xb g f c : sProp 𝕄)) k u

/-- All three in flight, the rest of the buffer in hand. -/
def XBusy (N : ℕ) (xb : Memref sig .scVector .vmem S4x8064 .i32) (sem : DmaSems sig S_) (g : Fin 4) : sProp 𝕄 :=
  iprop(∃ f : Buf (Elt F) (xb.view.loc (thr d i)), XFly d i fx N xb sem g 3 0 f
    ∗ (xb.view.loc (thr d i) ↦[xb.view.set \ Finset.univ.biUnion (xset d i xb)]{fullShare} f))

/-- The chunk landed: each row reads as the input's. -/
def XReady (xb : Memref sig .scVector .vmem S4x8064 .i32) (sem : DmaSems sig S_) (g : Fin 4) : sProp 𝕄 :=
  iprop(∃ f : Buf (Elt F) (xb.view.loc (thr d i)), ⌜∀ c, (xdst xb c).view.read (Elt F) f = xrow d i fx g c⌝
    ∗ (xb.view.loc (thr d i) ↦[xb.view.set]{fullShare} f) ∗ semVal (thr d i, .dma sem.sem) 0)

/-- They are cells of the staging buffer. -/
theorem xset_subset (c : Fin 3) : xset d i xb c ⊆ xb.view.set := by
  show ((xb.view.slice _).reshape _ _).set ⊆ _
  rw [View.set_reshape]
  exact View.set_slice_subset ..

/-- They are the first 8000 cells of row `c`. -/
theorem xset_eq (c : Fin 3) :
    xset d i xb c = (Rect.unit (s := S4x8064) ![c.val, 0] S1x8000.size (row_inb c)).set.map xb.view.emb :=
  (View.set_reshape _ _).trans (View.set_slice _ _)

/-- Two rows share no cell. -/
theorem xset_disjoint : ∀ c ∈ (Finset.univ : Finset (Fin 3)), ∀ c' ∈ (Finset.univ : Finset (Fin 3)), c ≠ c' → Disjoint (xset d i xb c) (xset d i xb c') := by
  intro c _ c' _ h
  rw [Finset.disjoint_left]
  intro x hx hx'
  rw [xset_eq, Finset.mem_map] at hx hx'
  obtain ⟨y, hy, rfl⟩ := hx
  obtain ⟨y', hy', e⟩ := hx'
  obtain rfl := xb.view.emb.injective e
  rw [← Rect.map_emb_univ, Finset.mem_map] at hy hy'
  obtain ⟨z, -, rfl⟩ := hy
  obtain ⟨z', -, e⟩ := hy'
  have h0 := congrArg Fin.val (congrFun e 0)
  rw [Rect.emb_apply, Rect.emb_apply] at h0
  have hz : (z 0).val < 1 := (z 0).isLt
  have hz' : (z' 0).val < 1 := (z' 0).isLt
  simp [Rect.unit] at h0
  exact h (Fin.ext (by omega))

/-- A separate conjunction over three rows, written out. -/
theorem bigSep_three (Φ : Fin 3 → sProp 𝕄) : bigSep Finset.univ Φ = iprop(Φ 0 ∗ Φ 1 ∗ Φ 2) := by
  rw [bigSep_univ_succ, bigSep_univ_succ, bigSep_univ_of_subsingleton (0 : Fin 1)]
  rfl

/-- What a copy in reads is part of the transposed indices. -/
theorem xsrc_subset (g : Fin 4) (c : Fin 3) : (xsrc i g xt c).view.set ⊆ xt.view.set := by
  show ((xt.view.slice _).reshape _ _).set ⊆ _
  rw [View.set_reshape]
  exact View.set_slice_subset ..

variable [FloatOps F] {N : ℕ}

/-- One of the three started. -/
theorem xStart_run (hN : ∀ c, (xdst xb c).view.dmaCredit = N) (g : Fin 4) (c : Fin 3) (f : Buf (Elt F) (xb.view.loc (thr d i))) :
    iprop(Some xt.view.set fx ∗ (xb.view.loc (thr d i) ↦[xset d i xb c]{fullShare} f) ∗ XFly d i fx N xb sem g c 0 f)
      ⊢ WPT d i (xStart i g xt xb sem c) fun _ => iprop(Some xt.view.set fx ∗ XFly d i fx N xb sem g (c + 1) 0 f) := by
  iintro ⟨HX, Hd, HB⟩
  ihave HX' := (Some_split xt.view.set fx) $$ HX
  icases HX' with ⟨⟨%q, Hs⟩, HX⟩
  ihave Hs' := (pointsTo_split_subset (q := q) (f := fx) (xsrc_subset i (xt := xt) g c)).1 $$ Hs
  icases Hs' with ⟨Hs, -⟩
  unfold xStart
  have hD : iprop((xb.view.loc (thr d i) ↦[xset d i xb c]{fullShare} xleft d i fx xb g f c)
      ∗ ((xsrc i g xt c).view.loc (thr d i) ↦[(xsrc i g xt c).view.set]{q} fx)) ⊢ (xb.view.loc (thr d i) ↦[xset d i xb c]{fullShare} xleft d i fx xb g f c : sProp 𝕄) :=
    sep_elim_left
  iapply (wp_dmaBatch EC 𝒱₀ (thr d i) none (src := xsrc i g xt c) (via := .same) (dst := xdst xb c) (fs := fx) (fd := f) (q := q) (Sd := xset d i xb c)
    (D := fun c => (xb.view.loc (thr d i) ↦[xset d i xb c]{fullShare} xleft d i fx xb g f c : sProp 𝕄)) (n := 3) (j := c.val) (u := 0) ιw N (show (xdst xb c).view.amount (.dma sem.sem) = N from hN c) (fun _ h => h) c.isLt (Nat.zero_le _) hD) $$ [Hs Hd HB]
  · isplitl [Hs]; · iexact Hs
    isplitl [Hd]; · iexact Hd
    iexact HB
  iintro HB
  iapply (Entails.of_eq (wp_ret ..).symm)
  imodintro
  isplitl [HX]; · iexact HX
  iexact HB

/-- The three started. -/
theorem xStarts_run (hN : ∀ c, (xdst xb c).view.dmaCredit = N) (g : Fin 4) :
    iprop(Some xt.view.set fx ∗ XFree d i xb sem)
      ⊢ WPT d i (seqs (xStarts i g xt xb sem)) fun _ => iprop(Some xt.view.set fx ∗ XBusy d i fx N xb sem g) := by
  unfold XFree
  iintro ⟨HX, %f, Hb, Hv⟩
  imod (batch_alloc' (EC (F := F)) (thr d i) (sm := .dma sem.sem) ιw N
    (fun c => (xb.view.loc (thr d i) ↦[xset d i xb c]{fullShare} xleft d i fx xb g f c : sProp 𝕄)) (E := Set.univ)) $$ Hv with HB
  ihave Hb' := (pointsTo_split_subset (q := fullShare) (f := f) (Finset.biUnion_subset.mpr fun c (_ : c ∈ Finset.univ) => xset_subset d i (xb := xb) c)).1 $$ Hb
  icases Hb' with ⟨Hb, Hrest⟩
  ihave Hb' := (Entails.of_eq (pointsTo_biUnion (q := fullShare) (f := f) Finset.univ (xset d i xb) (xset_disjoint d i))) $$ Hb
  ihave Hb3 := (Entails.of_eq (bigSep_three fun c => (xb.view.loc (thr d i) ↦[xset d i xb c]{fullShare} f : sProp 𝕄))) $$ Hb'
  icases Hb3 with ⟨H0, H1, H2⟩
  iapply (run_cons d i (xStart_run d i fx hN g 0 f)) $$ [HX H0 HB]
  · isplitl [HX]; · iexact HX
    isplitl [H0]; · iexact H0
    iexact HB
  iintro ⟨HX, HB⟩
  iapply (run_cons d i (xStart_run d i fx hN g 1 f)) $$ [HX H1 HB]
  · isplitl [HX]; · iexact HX
    isplitl [H1]; · iexact H1
    iexact HB
  iintro ⟨HX, HB⟩
  iapply (run_cons d i (xStart_run d i fx hN g 2 f)) $$ [HX H2 HB]
  · isplitl [HX]; · iexact HX
    isplitl [H2]; · iexact H2
    iexact HB
  iintro ⟨HX, HB⟩
  iapply (run_nil d i)
  isplitl [HX]; · iexact HX
  unfold XBusy
  iexists f
  isplitl [HB]; · iexact HB
  iexact Hrest

/-- The three waited for. -/
theorem xWaits_run (hN : ∀ c, (xdst xb c).view.dmaCredit = N) (hN0 : 0 < N) (g : Fin 4) :
    iprop(XBusy d i fx N xb sem g ∗ Ow d i O W ∗ Mw d i O)
      ⊢ WPT d i (seqs (xWaits i g xt xb sem)) fun _ => iprop(XReady d i fx xb sem g ∗ Ow d i O W ∗ Mw d i O) := by
  unfold XBusy
  iintro ⟨⟨%f, HB, Hrest⟩, HO, Hm⟩
  iapply (run_cons d i (wait_some d i (sem := sem.sem) (hdst := xdst_exact xb 0) (hsrc := xsrc_exact i g xt 0) (j := 3) (u := 0) 1 ((hN 0).trans (Nat.one_mul N).symm) (by omega))) $$ [HB HO Hm]
  · isplitl [HB]; · iexact HB
    isplitl [HO]; · iexact HO
    iexact Hm
  iintro H
  iapply (run_cons d i (wait_some d i (sem := sem.sem) (hdst := xdst_exact xb 1) (hsrc := xsrc_exact i g xt 1) (j := 3) (u := 0 + 1 * N) 1 ((hN 1).trans (Nat.one_mul N).symm) (by omega))) $$ H
  iintro H
  iapply (run_cons d i (wait_last d i (sem := sem.sem) (hdst := xdst_exact xb 2) (hsrc := xsrc_exact i g xt 2) (n := 3) (u := 0 + 1 * N + 1 * N) (hN 2) hN0 (by omega))) $$ H
  iintro ⟨HD, Hv, HO, Hm⟩
  iapply (run_nil d i)
  isplitr [HO Hm]; swap
  · isplitl [HO]; · iexact HO
    iexact Hm
  ihave HD' := (pointsTo_biUnion_join (q := fullShare) Finset.univ (xset d i xb) (xleft d i fx xb g f) f (xset_disjoint d i)) $$ HD
  icases HD' with ⟨%f', %hf', Hd⟩
  ihave Hall := (pointsTo_join_subset (q := fullShare) (g := f') (f := f)
    (Finset.biUnion_subset.mpr fun c (_ : c ∈ Finset.univ) => xset_subset d i (xb := xb) c)) $$ [Hd Hrest]
  · isplitl [Hd]; · iexact Hd
    iexact Hrest
  unfold XReady
  iexists _
  isplitr; swap
  · isplitl [Hall]; · iexact Hall
    iexact Hv
  ipureintro
  intro c
  rw [View.read_congr (v := (xdst xb c).view) (g := xleft d i fx xb g f c), View.read_write_univ]
  intro x hx
  rw [Finset.piecewise_eq_of_mem _ _ _ (Finset.mem_biUnion.mpr ⟨c, Finset.mem_univ c, hx⟩)]
  exact hf' c (Finset.mem_univ c) x hx

end Cert.Proof.Lookup
-- ==== Proof.Chunk.lean ====
/-
  The index computation over a chunk: each sixteen-lane step reads sixteen places of the three rows and stores the
  table index each triple names; 500 steps fill the list.
-/
module

public import proofs.«01_k».proof.Proof.Copies

@[expose] public section

noncomputable section

namespace Cert.Proof.Lookup

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

local notation "𝕄" => MT nD τ sig (HIx 1) (Elt F) ℕ (UU F) ℕ

/-- The table index of a triple: the bits of `a`, `b` and `k` laid out, cut to 24 bits. -/
def widx (a b k : BitVec 32) : BitVec 32 :=
  ((((a <<< 16 ||| (b &&& 4294967288#32) <<< 8) ||| (b &&& 7#32) <<< 7) ||| (k &&& 128#32) <<< 3) ||| (k &&& 127#32)) &&& 16777215#32

/-- The vector of places, lane by lane. -/
theorem lanes_apply [FloatOps F] (a b k : Vec F S16 .i32) (j : S16.Idx) : lanes (F := F) a b k j = widx (a j) (b j) (k j) := rfl

/-- The place of row `c`, column `n` of the staging buffer; of entry `n` of the list. -/
def xix (c : Fin 3) (n : ℕ) (h : n < 8000) : S4x8064.Idx :=
  fun | 0 => (⟨c.val, by omega⟩ : Fin 4) | 1 => (⟨n, by omega⟩ : Fin 8064)
/-- Entry `n` of the list of places. -/
def eix (n : ℕ) (h : n < 8000) : S8000.Idx := fun | 0 => (⟨n, h⟩ : Fin 8000)

/-- Every index of the list is one entry. -/
theorem eix_eta (p : S8000.Idx) : eix (p 0).val (p 0).isLt = p := by
  funext a; match a with | 0 => rfl

/-- What the copy in leaves in row `c` is read back at row `c`, column by column. -/
theorem xdst_read (xb : Memref sig .scVector .vmem S4x8064 .i32) (c : Fin 3) (f : xb.view.ty.Contents (Elt F)) (p : S8000.Idx) :
    (xdst xb c).view.read (Elt F) f p = xb.view.read (Elt F) f (xix c (p 0).val (p 0).isLt) := by
  rw [View.read_apply, View.read_apply]
  congr 2
  show xb.view.emb ((Rect.unit (s := S4x8064) ![c.val, 0] S1x8000.size (row_inb c)).emb (Shape.reshapeEquiv _ p)) = _
  congr 1
  rw [Shape.reshapeEquiv_cons_one (d := ![8000])]
  funext a
  apply Fin.ext
  rw [Rect.emb_apply]
  match a with
  | 0 => simp [Rect.unit, xix]; rfl
  | 1 => simp [Rect.unit, xix]; rfl

/-- A load of sixteen lanes of row `c` reads those columns. -/
theorem row_read (xb : Memref sig .scVector .vmem S4x8064 .i32) (c : Fin 3) (f : xb.view.ty.Contents (Elt F)) (off : Fin 2 → ℕ)
    (hb : ∀ a, off a + S1x16.size a ≤ S4x8064.size a) (n : ℕ) (hoff : off = ![c.val, n]) (hn : n + 16 ≤ 8000) (j : S16.Idx) :
    shapeCast S16 ((xb.access (Rect.unit (s := S4x8064) off S1x16.size hb)).read (Elt F) f) shapeCasts_S1x16_S16 j
      = xb.view.read (Elt F) f (xix c (n + (j 0).val) (by have : (j 0).val < 16 := (j 0).isLt; omega)) := by
  subst hoff
  unfold shapeCast
  rw [View.read_apply, View.read_apply]
  congr 2
  show xb.view.emb ((Rect.unit (s := S4x8064) ![c.val, n] S1x16.size hb).emb (Shape.reshapeEquiv _ j)) = _
  congr 1
  rw [Shape.reshapeEquiv_cons_one (d := ![16])]
  funext a
  apply Fin.ext
  rw [Rect.emb_apply]
  match a with
  | 0 => simp [Rect.unit, xix]; rfl
  | 1 => simp [Rect.unit, xix]; rfl

section Step

variable (d : Dev nD) (i : grid0.Coords)
variable {xb : Memref sig .scVector .vmem S4x8064 .i32} {ib : Memref sig .scVector .vmem S8000 .i32}
variable (X : Fin 3 → S8000.Idx → Elt F .i32)

/-- The index entry `p` of the list is to hold. -/
abbrev want (p : S8000.Idx) : BitVec 32 := widx (X 0 p) (X 1 p) (X 2 p)

/-- The list, its first `n` entries computed. -/
def IUpto (ib : Memref sig .scVector .vmem S8000 .i32) (n : ℕ) : sProp 𝕄 :=
  iprop(∃ f : Buf (Elt F) (ib.view.loc (thr d i)), ⌜∀ p : S8000.Idx, (p 0).val < n → ib.view.read (Elt F) f p = want X p⌝
    ∗ (ib.view.loc (thr d i) ↦[ib.view.set]{fullShare} f))

/-- What a sixteen-lane store leaves of the first `n + 16` entries. -/
theorem store_read (f : ib.view.ty.Contents (Elt F)) (w : S16.Idx → Elt F .i32) (off : Fin 1 → ℕ)
    (hb : ∀ a, off a + S16.size a ≤ S8000.size a) (n : ℕ) (hoff : off = ![n]) (V : S8000.Idx → Elt F .i32)
    (hf : ∀ p : S8000.Idx, (p 0).val < n → ib.view.read (Elt F) f p = V p)
    (hw : ∀ (j : S16.Idx) (p : S8000.Idx), (p 0).val = n + (j 0).val → w j = V p) :
    ∀ p : S8000.Idx, (p 0).val < n + 16 →
      ib.view.read (Elt F) ((ib.access (Rect.unit (s := S8000) off S16.size hb)).write (Elt F) f w Finset.univ) p = V p := by
  subst hoff
  intro p hp
  rcases Nat.lt_or_ge (p 0).val n with h | h
  · rw [← hf p h]
    refine View.read_congr_at p (View.write_of_not_mem _ _ _ ?_)
    intro hm
    obtain ⟨j, -, e⟩ := Finset.mem_map.mp hm
    have e' : (Rect.unit (s := S8000) ![n] S16.size hb).emb j = p := ib.view.emb.injective e
    have := congrArg Fin.val (congrFun e' 0)
    rw [Rect.emb_apply] at this
    simp [Rect.unit] at this
    omega
  · have hj : (p 0).val - n < 16 := by omega
    let j : S16.Idx := fun | 0 => (⟨(p 0).val - n, hj⟩ : Fin 16)
    have e : (Rect.unit (s := S8000) ![n] S16.size hb).emb j = p := by
      funext a; apply Fin.ext; rw [Rect.emb_apply]
      match a with
      | 0 => simp [Rect.unit, j]; omega
    have e' : (ib.access (Rect.unit (s := S8000) ![n] S16.size hb)).emb j = ib.view.emb p := by
      show ib.view.emb ((Rect.unit (s := S8000) ![n] S16.size hb).emb j) = _
      rw [e]
    rw [View.read_apply, ← e', View.write_emb_of_mem _ _ (Finset.mem_univ j), cast_cast, cast_eq]
    exact hw j p (by simp [j]; omega)

variable [FloatOps F]

/-- One sixteen-lane step. -/
theorem laneStep_run (f : Buf (Elt F) (xb.view.loc (thr d i))) (hf : ∀ c, (xdst xb c).view.read (Elt F) f = X c)
    (t : Fin k0_t1_loop.trips) (r : Fin 4) (n : ℕ) (hn : n = 64 * t.val + 16 * r.val) :
    iprop((xb.view.loc (thr d i) ↦[xb.view.set]{fullShare} f) ∗ IUpto d i X ib n)
      ⊢ WPT d i (laneStep i xb ib t r) fun _ => iprop((xb.view.loc (thr d i) ↦[xb.view.set]{fullShare} f) ∗ IUpto d i X ib (n + 16)) := by
  have ht : t.val < 125 := lt_of_lt_of_eq t.isLt (by decide)
  have hr := r.isLt
  unfold laneStep IUpto
  iintro ⟨Hx, %fi, %hfi, Hi⟩
  iapply (wp_load_rect 𝒱₀ (thr d i) none Set.univ (m := xb) (r := Rect.unit (s := S4x8064) (k0_off4 t (BitVec.ofNat 32 r.val)) S1x16.size (k0_off4_inb t r)) (f := f) (q := fullShare) (View.set_slice_subset ..)) $$ Hx
  iintro Hx
  iapply (wp_load_rect 𝒱₀ (thr d i) none Set.univ (m := xb) (r := Rect.unit (s := S4x8064) (k0_off5 t (BitVec.ofNat 32 r.val)) S1x16.size (k0_off5_inb t r)) (f := f) (q := fullShare) (View.set_slice_subset ..)) $$ Hx
  iintro Hx
  iapply (wp_load_rect 𝒱₀ (thr d i) none Set.univ (m := xb) (r := Rect.unit (s := S4x8064) (k0_off6 t (BitVec.ofNat 32 r.val)) S1x16.size (k0_off6_inb t r)) (f := f) (q := fullShare) (View.set_slice_subset ..)) $$ Hx
  iintro Hx
  iapply (wp_load_rect 𝒱₀ (thr d i) none Set.univ (m := ib) (r := Rect.unit (s := S8000) (k0_off7 t (BitVec.ofNat 32 r.val)) S16.size (k0_off7_inb t r)) (f := fi) (q := fullShare) (View.set_slice_subset ..)) $$ Hi
  iintro Hi
  iapply (wp_store 𝒱₀ (thr d i) none Set.univ (m := ib) (r := Rect.unit (s := S8000) (k0_off7 t (BitVec.ofNat 32 r.val)) S16.size (k0_off7_inb t r)) (f := fi) (S := ib.view.set) ((View.setOn_subset_set _ _).trans (View.set_slice_subset ..))) $$ Hi
  iintro Hi
  iapply (Entails.of_eq (wp_ret ..).symm)
  imodintro
  isplitl [Hx]; · iexact Hx
  iexists _
  isplitr; swap; · iexact Hi
  ipureintro
  refine store_read fi _ _ _ n (by rw [k0_off7_eq, hn]) (want X) hfi ?_
  intro j p hp
  have hj : (j 0).val < 16 := (j 0).isLt
  have hx : ∀ c, xb.view.read (Elt F) f (xix c (n + (j 0).val) (by omega)) = X c p := fun c => by
    rw [← hf c, xdst_read]; congr 2; exact hp.symm
  rw [lanes_apply, row_read xb 0 f _ _ n (by rw [k0_off4_eq, hn]; rfl) (by omega), row_read xb 1 f _ _ n (by rw [k0_off5_eq, hn]; rfl) (by omega),
    row_read xb 2 f _ _ n (by rw [k0_off6_eq, hn]; rfl) (by omega), hx, hx, hx]

/-- One trip: four steps. -/
theorem trip_run (f : Buf (Elt F) (xb.view.loc (thr d i))) (hf : ∀ c, (xdst xb c).view.read (Elt F) f = X c) (t : Fin k0_t1_loop.trips) :
    iprop((xb.view.loc (thr d i) ↦[xb.view.set]{fullShare} f) ∗ IUpto d i X ib (64 * t.val))
      ⊢ WPT d i (seqs [laneStep i xb ib t 0, laneStep i xb ib t 1, laneStep i xb ib t 2, laneStep i xb ib t 3]) fun _ =>
        iprop((xb.view.loc (thr d i) ↦[xb.view.set]{fullShare} f) ∗ IUpto d i X ib (64 * (t.val + 1))) :=
  run_step d i (laneStep_run d i X f hf t 0 (64 * t.val) (by simp)) <|
  run_step d i (laneStep_run d i X f hf t 1 (64 * t.val + 16) (by simp)) <|
  run_step d i (laneStep_run d i X f hf t 2 (64 * t.val + 16 + 16) (by simp)) <|
  run_step d i (laneStep_run d i X f hf t 3 (64 * t.val + 16 + 16 + 16) (by simp)) <| by
  rw [show 64 * (t.val + 1) = 64 * t.val + 16 + 16 + 16 + 16 by omega]
  exact run_nil d i

/-- The list idle. -/
def IFree (ib : Memref sig .scVector .vmem S8000 .i32) : sProp 𝕄 :=
  iprop(∃ f : Buf (Elt F) (ib.view.loc (thr d i)), ib.view.loc (thr d i) ↦[ib.view.set]{fullShare} f)

variable {xt : Memref sig .scVector .hbm S3x1000000 .i32} (fx : Buf (Elt F) (xt.view.loc (thr d i))) {sem : DmaSems sig S_}

/-- The list computed for slot `g`'s chunk. -/
abbrev IReady (ib : Memref sig .scVector .vmem S8000 .i32) (g : Fin 4) : sProp 𝕄 := IUpto d i (xrow d i fx g) ib 8000

/-- The loop: from a landed chunk, the list. -/
theorem chunkLoop_run (g : Fin 4) :
    iprop(XReady d i fx xb sem g ∗ IFree d i ib)
      ⊢ WPT d i (seqs [chunkLoop i xb ib]) fun _ => iprop(XFree d i xb sem ∗ IReady d i fx ib g) := by
  refine run_last d i ?_
  unfold XReady IFree chunkLoop
  iintro ⟨⟨%f, %hf, Hx, Hv⟩, %fi, Hi⟩
  have hb : ∀ (k : Fin (Scf.trips k0_t1_loop.lb k0_t1_loop.ub k0_t1_loop.st)) (_ : PUnit),
      iprop((xb.view.loc (thr d i) ↦[xb.view.set]{fullShare} f) ∗ IUpto d i (xrow d i fx g) ib (64 * k.val)) ⊢ _ :=
    fun k _ => trip_run d i (ib := ib) (xrow d i fx g) f hf k
  iapply (Scf.wp_for frame (wpE (defs₀ (F := F)) 𝒱₀ (thr d i) none) Set.univ _ _ _ k0_t1_ok PUnit.unit _
    (fun n _ => iprop((xb.view.loc (thr d i) ↦[xb.view.set]{fullShare} f) ∗ IUpto d i (xrow d i fx g) ib (64 * n))) hb)
  isplitl [Hx Hi]
  · isplitl [Hx]; · iexact Hx
    unfold IUpto
    iexists fi
    isplitr; swap; · iexact Hi
    ipureintro
    intro p hp; omega
  · iintro %_ ⟨Hx, Hi⟩
    unfold XFree
    isplitl [Hx Hv]
    · iexists f
      isplitl [Hx]; · iexact Hx
      iexact Hv
    · rw [show 64 * Scf.trips k0_t1_loop.lb k0_t1_loop.ub k0_t1_loop.st = 8000 by decide]
      iexact Hi

end Step

end Cert.Proof.Lookup
-- ==== Proof.Rows.lean ====
/-
  One gather among those in flight on a semaphore, over any stretch of the list: what each of its rows delivers, in
  terms of the whole value buffer and the whole list.
-/
module

public import proofs.«01_k».proof.Proof.Chunk

@[expose] public section

noncomputable section

namespace Cert.Proof.Lookup

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

local notation "𝕄" => MT nD τ sig (HIx 1) (Elt F) ℕ (UU F) ℕ

/-- A shape of one axis. -/
abbrev Sh (n : ℕ) : Shape := ⟨1, ![n]⟩

/-- The index `n` of a shape of one axis. -/
def ix1 {M : ℕ} (n : ℕ) (h : n < M) : (Sh M).Idx := fun | 0 => (⟨n, h⟩ : Fin M)

/-- The number of an entry. -/
@[simp] theorem ix1_val {M : ℕ} (n : ℕ) (h : n < M) : (ix1 n h 0).val = n := rfl

/-- Every index of a list is one entry. -/
theorem ix1_eta {M : ℕ} (p : (Sh M).Idx) : ix1 (p 0).val (p 0).isLt = p := by
  funext a; match a with | 0 => rfl

section Sets

variable {κ : Kind} {sp : Space} {e : EltTy} {M : ℕ} (m : Memref sig κ sp (Sh M) e)

/-- The elements of a one-axis buffer from place `n` on. -/
def fromSet (n : ℕ) : Finset m.view.ty.Idx := (Finset.univ.filter fun p : (Sh M).Idx => n ≤ (p 0).val).map m.view.emb

/-- From entry 0 on it is everything. -/
theorem fromSet_zero : fromSet m 0 = m.view.set := by
  unfold fromSet; rw [Finset.filter_true_of_mem fun _ _ => Nat.zero_le _]; rfl

/-- From the end on it is nothing. -/
theorem fromSet_all {n : ℕ} (h : M ≤ n) : fromSet m n = ∅ := by
  unfold fromSet
  rw [Finset.filter_false_of_mem, Finset.map_empty]
  intro p _
  have : (p 0).val < M := (p 0).isLt
  omega

/-- A stretch's place `j` is the buffer's place `a + j`. -/
theorem stretch_emb {o a : ℕ} (hb : ∀ b, (![a] : Fin 1 → ℕ) b + (Sh o).size b ≤ (Sh M).size b) (j : (Sh o).Idx) (h : a + (j 0).val < M) :
    (m.view.slice (Rect.unit (s := Sh M) ![a] (Sh o).size hb)).emb j = m.view.emb (ix1 (a + (j 0).val) h) := by
  show m.view.emb ((Rect.unit (s := Sh M) ![a] (Sh o).size hb).emb j) = _
  congr 1
  funext b
  apply Fin.ext
  rw [Rect.emb_apply]
  match b with
  | 0 => show a + 1 * (j 0).val = a + (j 0).val; omega

/-- Membership in a stretch of a list, by the number. -/
theorem mem_stretch {o a : ℕ} (hb : ∀ b, (![a] : Fin 1 → ℕ) b + (Sh o).size b ≤ (Sh M).size b) (p : (Sh M).Idx) :
    m.view.emb p ∈ (m.view.slice (Rect.unit (s := Sh M) ![a] (Sh o).size hb)).set ↔ a ≤ (p 0).val ∧ (p 0).val < a + o := by
  have hM : a + o ≤ M := hb 0
  constructor
  · intro h
    obtain ⟨j, -, e⟩ := Finset.mem_map.mp h
    have hj : (j 0).val < o := (j 0).isLt
    rw [stretch_emb m hb j (by omega)] at e
    rw [← m.view.emb.injective e, ix1_val]
    omega
  · rintro ⟨h1, h2⟩
    refine Finset.mem_map.mpr ⟨ix1 ((p 0).val - a) (by omega), Finset.mem_univ _, ?_⟩
    rw [stretch_emb m hb _ (by rw [ix1_val]; omega)]
    congr 1
    funext b
    match b with
    | 0 => apply Fin.ext; rw [ix1_val, ix1_val]; omega

/-- A stretch lies in what comes from its start on. -/
theorem stretch_subset {o a : ℕ} (hb : ∀ b, (![a] : Fin 1 → ℕ) b + (Sh o).size b ≤ (Sh M).size b) :
    (m.view.slice (Rect.unit (s := Sh M) ![a] (Sh o).size hb)).set ⊆ fromSet m a := by
  intro x hx
  obtain ⟨j, -, rfl⟩ := Finset.mem_map.mp hx
  have hM : a + o ≤ M := hb 0
  have hj : (j 0).val < o := (j 0).isLt
  rw [stretch_emb m hb j (by omega)]
  exact Finset.mem_map.mpr ⟨_, Finset.mem_filter.mpr ⟨Finset.mem_univ _, by rw [ix1_val]; omega⟩, rfl⟩

/-- What comes from a stretch on, less the stretch, is what comes from its end on. -/
theorem fromSet_sdiff {o a : ℕ} (hb : ∀ b, (![a] : Fin 1 → ℕ) b + (Sh o).size b ≤ (Sh M).size b) :
    fromSet m a \ (m.view.slice (Rect.unit (s := Sh M) ![a] (Sh o).size hb)).set = fromSet m (a + o) := by
  ext x
  constructor
  · intro h
    obtain ⟨h1, h2⟩ := Finset.mem_sdiff.mp h
    obtain ⟨p, hp, rfl⟩ := Finset.mem_map.mp h1
    rw [mem_stretch] at h2
    have := (Finset.mem_filter.mp hp).2
    exact Finset.mem_map.mpr ⟨p, Finset.mem_filter.mpr ⟨Finset.mem_univ _, by omega⟩, rfl⟩
  · intro h
    obtain ⟨p, hp, rfl⟩ := Finset.mem_map.mp h
    have := (Finset.mem_filter.mp hp).2
    refine Finset.mem_sdiff.mpr ⟨Finset.mem_map.mpr ⟨p, Finset.mem_filter.mpr ⟨Finset.mem_univ _, by omega⟩, rfl⟩, ?_⟩
    rw [mem_stretch]; omega

/-- The one row `j` of a stretch is the buffer's place `a + j`. -/
theorem row_emb {o a : ℕ} (hb : ∀ b, (![a] : Fin 1 → ℕ) b + (Sh o).size b ≤ (Sh M).size b) (ax : Fin (Sh o).rank) (j : Fin ((Sh o).size ax))
    (h : a + j.val < M) (x : ((Sh o).rowRect ax j).shape.Idx) :
    ((m.view.slice (Rect.unit (s := Sh M) ![a] (Sh o).size hb)).slice ((Sh o).rowRect ax j)).emb x = m.view.emb (ix1 (a + j.val) h) := by
  have hax : ax = 0 := Subsingleton.elim (α := Fin 1) _ _
  subst hax
  have hx : (x 0).val = 0 := by
    have h1 : (x 0).val < ((Sh o).rowRect 0 j).shape.size 0 := (x 0).isLt
    have h2 : ((Sh o).rowRect 0 j).shape.size 0 = 1 := by simp [Shape.rowShape, Shape.rowRect, Rect.unit]
    omega
  have hv : (((Sh o).rowRect 0 j).emb x 0).val = j.val := by
    rw [Rect.emb_apply]
    simp [Shape.rowRect, Rect.unit, hx]
  refine (stretch_emb m hb (((Sh o).rowRect 0 j).emb x) (by rw [hv]; exact h)).trans ?_
  congr 1
  funext b
  match b with
  | 0 => apply Fin.ext; rw [ix1_val, ix1_val, hv]

/-- A single row of a stretch is not empty. -/
theorem row_pos {o : ℕ} (ax : Fin (Sh o).rank) (j : Fin ((Sh o).size ax)) (b) : 0 < ((Sh o).rowRect ax j).shape.size b := by
  have hax : ax = 0 := Subsingleton.elim (α := Fin 1) _ _
  subst hax
  match b with
  | 0 => show 0 < ((Sh o).rowRect 0 j).shape.size 0; simp [Shape.rowShape, Shape.rowRect, Rect.unit]

/-- Entry `j` of a stretch is one cell. -/
theorem row_set {o a : ℕ} (hb : ∀ b, (![a] : Fin 1 → ℕ) b + (Sh o).size b ≤ (Sh M).size b) (ax : Fin (Sh o).rank) (j : Fin ((Sh o).size ax))
    (h : a + j.val < M) :
    ((m.view.slice (Rect.unit (s := Sh M) ![a] (Sh o).size hb)).slice ((Sh o).rowRect ax j)).set = {m.view.emb (ix1 (a + j.val) h)} := by
  have hax : ax = 0 := Subsingleton.elim (α := Fin 1) _ _
  subst hax
  ext x
  rw [Finset.mem_singleton]
  constructor
  · intro hx
    obtain ⟨y, -, rfl⟩ := Finset.mem_map.mp hx
    exact row_emb m hb 0 j h y
  · rintro rfl
    refine Finset.mem_map.mpr ⟨fun b => ⟨0, row_pos 0 j b⟩, Finset.mem_univ _, row_emb m hb 0 j h _⟩

/-- The entries of a list in their flat order. -/
theorem list_at {o : ℕ} {k : Fin o} (hn : (Sh o).numel = o) : ((Sh o).rowMajor.symm (k.cast hn.symm) 0).val = k.val := by
  rw [← Shape.rowMajor_val_one, Equiv.apply_symm_apply]; rfl

/-- The same, from the start of a stretch. -/
theorem list_ix {o a M : ℕ} (hn : (Sh o).numel = o) (k : Fin o) (h : a + k.val < M) (h') :
    ix1 (M := M) (a + ((Sh o).rowMajor.symm (k.cast hn.symm) 0).val) h' = ix1 (a + k.val) h := by
  congr 1
  rw [list_at hn]

/-- The same, as a cell of the buffer. -/
theorem list_emb {o a : ℕ} (hb : ∀ b, (![a] : Fin 1 → ℕ) b + (Sh o).size b ≤ (Sh M).size b) {hn : (Sh o).numel = o} (k : Fin o) (h : a + k.val < M) :
    (m.view.slice (Rect.unit (s := Sh M) ![a] (Sh o).size hb)).emb ((Sh o).rowMajor.symm (k.cast hn.symm)) = m.view.emb (ix1 (a + k.val) h) := by
  refine (stretch_emb m hb _ (by rw [list_at hn]; exact h)).trans ?_
  congr 1
  funext b
  match b with
  | 0 => apply Fin.ext; rw [ix1_val, ix1_val, list_at hn]

end Sets

/-! ## What a row delivers -/

variable (d : Dev nD) (i : grid0.Coords)
variable {tb : Memref sig .scVector .hbm S16777216 .f32} {ib : Memref sig .scVector .vmem S8000 .i32} {vb : Memref sig .scVector .vmem S8064 .f32}
variable (X : Fin 3 → S8000.Idx → Elt F .i32) (ft : Buf (Elt F) (tb.view.loc (thr d i)))

/-- The mask keeps every place inside the table. -/
theorem widx_lt (a b k : BitVec 32) : (widx a b k).toNat < 16777216 := by
  unfold widx
  rw [BitVec.toNat_and]
  exact lt_of_le_of_lt Nat.and_le_right (by decide)

/-- The table's entry for a triple. -/
abbrev tval (a b k : BitVec 32) : Elt F .f32 := tb.view.read (Elt F) ft (ix1 (widx a b k).toNat (widx_lt a b k))

/-- The value entry `p` of the value buffer is to hold. -/
def gval (p : S8000.Idx) : Elt F .f32 := tval d i ft (X 0 p) (X 1 p) (X 2 p)

/-- The value buffer once every value has landed. -/
def vfull (vb : Memref sig .scVector .vmem S8064 .f32) (f : Buf (Elt F) (vb.view.loc (thr d i))) : Buf (Elt F) (vb.view.loc (thr d i)) :=
  (vsrc vb).view.write (Elt F) f (gval d i X ft) Finset.univ

/-- An entry lies in the padded buffer. -/
theorem lt8064 {p : ℕ} (h : p < 8000) : p < 8064 := by omega

/-- The gathered entry at each place of the buffer. -/
theorem vfull_at (f : Buf (Elt F) (vb.view.loc (thr d i))) (p : ℕ) (h : p < 8000) :
    vfull d i X ft vb f (vb.view.emb (ix1 p (lt8064 h))) = cast (congrArg (Elt F) vb.view.elt_eq.symm) (gval d i X ft (ix1 p h)) := by
  unfold vfull
  have e : vb.view.emb (ix1 p (lt8064 h)) = (vsrc vb).view.emb (ix1 (M := 8000) p h) := by
    refine ((stretch_emb vb (o := 8000) (a := 0) inb_S8064_S8000_0 (ix1 (M := 8000) p h) (by rw [ix1_val]; omega)).trans ?_).symm
    congr 1
    funext b
    match b with
    | 0 => apply Fin.ext; rw [ix1_val, ix1_val, ix1_val]; omega
  rw [e, View.write_emb_of_mem _ _ (Finset.mem_univ _)]

/-- What the row of entry `p` delivers: the value landed, the list's entry back. -/
def piece (f : Buf (Elt F) (vb.view.loc (thr d i))) (fi : Buf (Elt F) (ib.view.loc (thr d i))) (p : ℕ) (h : p < 8000) : sProp 𝕄 :=
  iprop((vb.view.loc (thr d i) ↦[{vb.view.emb (ix1 p (lt8064 h))}]{fullShare} vfull d i X ft vb f)
    ∗ (ib.view.loc (thr d i) ↦[{ib.view.emb (ix1 p h)}]{fullShare} fi))

/-- What a gathered entry carries may be kept in an invariant. -/
instance (f : Buf (Elt F) (vb.view.loc (thr d i))) (fi : Buf (Elt F) (ib.view.loc (thr d i))) (p : ℕ) (h : p < 8000) :
    Storable (upEmb : UEmb _ 𝕄) (piece d i X ft (vb := vb) f fi p h) := by unfold piece; infer_instance

/-- The rows of entries `a₀, …, a₀ + n - 1`. -/
abbrev pieces (f : Buf (Elt F) (vb.view.loc (thr d i))) (fi : Buf (Elt F) (ib.view.loc (thr d i))) (a₀ n : ℕ) (h : a₀ + n ≤ 8000) :
    Fin n → sProp 𝕄 := fun t => piece d i X ft (vb := vb) f fi (a₀ + t.val) (by have := t.isLt; omega)

/-- The table as the gather names it reads as the table. -/
theorem tsrc_read (x : S16777216.Idx) : (tsrc tb).view.read (Elt F) ft x = tb.view.read (Elt F) ft x := by
  rw [View.read_apply, View.read_apply]
  congr 2
  refine (stretch_emb tb (o := 16777216) (a := 0) inb_S16777216_S16777216_0 x (by have : (x 0).val < 16777216 := (x 0).isLt; omega)).trans ?_
  congr 1
  funext b
  match b with
  | 0 => apply Fin.ext; rw [ix1_val]; omega

variable [FloatOps F]

/-- One gather started. -/
theorem gather_run {o a : ℕ} (hv : ∀ b, (![a] : Fin 1 → ℕ) b + (Sh o).size b ≤ S8064.size b) (hi : ∀ b, (![a] : Fin 1 → ℕ) b + (Sh o).size b ≤ S8000.size b)
    {hg : S16777216.Gathers 0 (Sh o)} {hn : (Sh o).numel = (Sh o).size hg.axis'} {sem : DmaSem sig}
    {hp : (thr d i).2.kind = .scVector} {hsrc : (tsrc tb).view.WordExact} {he : EltTy.f32.bits = 32} {hsp : Space.hbm = .hbm ∨ Space.hbm = .shared} {hr : S16777216.StreamRows 0}
    (N : ℕ) (hN : ∀ j, ((vb.slice (Rect.unit (s := S8064) ![a] (Sh o).size hv) (fun _ => rfl)).slice ((Sh o).rowRect hg.axis' j) ((Sh o).stride_rowRect hg.axis' j)).view.dmaCredit = N)
    (ho : 0 < o) (f : Buf (Elt F) (vb.view.loc (thr d i))) (fi : Buf (Elt F) (ib.view.loc (thr d i)))
    (hfi : ∀ p, ib.view.read (Elt F) fi p = want X p) {a₀ n j₀ : ℕ} (h : a₀ + n ≤ 8000) (ha : a = a₀ + j₀) (hj : j₀ + o ≤ n) :
    iprop(Some tb.view.set ft ∗ (vb.view.loc (thr d i) ↦[fromSet vb a]{fullShare} f) ∗ (ib.view.loc (thr d i) ↦[fromSet ib a]{fullShare} fi)
        ∗ Batch (EC (F := F)) (thr d i) (.dma sem) ιw N (pieces d i X ft (vb := vb) f fi a₀ n h) j₀ 0)
      ⊢ WPT d i (SparseCore.enqueueIndirectGather hp (tsrc tb) (vb.slice (Rect.unit (s := S8064) ![a] (Sh o).size hv) (fun _ => rfl)) hg
          (ib.slice (Rect.unit (s := S8000) ![a] (Sh o).size hi) (fun _ => rfl)) hn sem hsrc he hsp hr) fun _ =>
        iprop(Some tb.view.set ft ∗ (vb.view.loc (thr d i) ↦[fromSet vb (a + o)]{fullShare} f) ∗ (ib.view.loc (thr d i) ↦[fromSet ib (a + o)]{fullShare} fi)
          ∗ Batch (EC (F := F)) (thr d i) (.dma sem) ιw N (pieces d i X ft (vb := vb) f fi a₀ n h) (j₀ + o) 0) := by
  have hao : a + o ≤ 8000 := hi 0
  iintro ⟨HT, Hv, Hi, HB⟩
  ihave HT' := (Some_split tb.view.set ft) $$ HT
  icases HT' with ⟨⟨%q, Ht⟩, HT⟩
  have hts : (tsrc tb).view.set ⊆ tb.view.set := View.set_slice_subset ..
  ihave Ht' := (pointsTo_split_subset (q := q) (f := ft) hts).1 $$ Ht
  icases Ht' with ⟨Ht, -⟩
  ihave Hv' := (pointsTo_split_subset (q := fullShare) (f := f) (stretch_subset vb (M := 8064) (o := o) (a := a) hv)).1 $$ Hv
  icases Hv' with ⟨Hv, Hvr⟩
  ihave Hi' := (pointsTo_split_subset (q := fullShare) (f := fi) (stretch_subset ib (M := 8000) (o := o) (a := a) hi)).1 $$ Hi
  icases Hi' with ⟨Hi, Hir⟩
  rw [fromSet_sdiff vb (M := 8064) hv, fromSet_sdiff ib (M := 8000) hi]
  have hread : ∀ x : (Sh o).Idx, ∀ hx : a + (x 0).val < 8000,
      (ib.slice (Rect.unit (s := S8000) ![a] (Sh o).size hi) (fun _ => rfl)).view.read (Elt F) fi x = want X (ix1 (a + (x 0).val) hx) := by
    intro x hx
    rw [← hfi, View.read_apply, View.read_apply]
    congr 2
    exact stretch_emb ib (M := 8000) hi x hx
  have hlt : ∀ x : (Sh o).Idx, a + (x 0).val < 8000 := fun x => by have : (x 0).val < o := (x 0).isLt; omega
  have hin : ∀ x, ((ib.slice (Rect.unit (s := S8000) ![a] (Sh o).size hi) (fun _ => rfl)).view.read (Elt F) fi x).toNat < S16777216.size hg.axis := by
    intro x
    rw [hread x (hlt x)]
    exact widx_lt _ _ _
  have hs : 0 < (Sh o).numel := by rw [show (Sh o).numel = o by simp [Shape.numel]]; exact ho
  have hD : ∀ j : Fin o,
      iprop((vb.view.loc (thr d i) ↦[((vb.slice (Rect.unit (s := S8064) ![a] (Sh o).size hv) (fun _ => rfl)).view.slice ((Sh o).rowRect hg.axis' j)).set]{fullShare}
              (((vb.slice (Rect.unit (s := S8064) ![a] (Sh o).size hv) (fun _ => rfl)).view.slice ((Sh o).rowRect hg.axis' j)).write (Elt F) f
                (fun x => (tsrc tb).view.read (Elt F) ft (hg.rowIdx (SparseCore.rows ((ib.slice (Rect.unit (s := S8000) ![a] (Sh o).size hi) (fun _ => rfl)).view.read (Elt F) fi) hn hin j) x)) Finset.univ))
          ∗ (ib.view.loc (thr d i) ↦[{(ib.slice (Rect.unit (s := S8000) ![a] (Sh o).size hi) (fun _ => rfl)).view.emb ((Sh o).rowMajor.symm (j.cast hn.symm))}]{fullShare} fi))
        ⊢ pieces d i X ft (vb := vb) f fi a₀ n h ⟨j₀ + j.val, by have := j.isLt; omega⟩ := by
    intro j
    have hjo : j.val < o := j.isLt
    unfold pieces piece
    iintro ⟨Hv, Hi⟩
    isplitl [Hv]
    · rw [row_set vb (M := 8064) hv hg.axis' j (by omega)]
      rw [pointsTo_congr (g := vfull d i X ft vb f)]
      · have eV : vb.view.emb (ix1 (M := 8064) (a + j.val) (by omega)) = vb.view.emb (ix1 (M := 8064) (a₀ + (j₀ + j.val)) (by omega)) := by
          congr 1; congr 1; omega
        exact Entails.of_eq (congrArg (fun y => (vb.view.loc (thr d i) ↦[{y}]{fullShare} vfull d i X ft vb f : sProp 𝕄)) eV)
      intro x hx
      have hx' := Finset.mem_singleton.mp hx
      subst hx'
      have ey := row_emb vb (M := 8064) hv hg.axis' j (by omega) (fun b => ⟨0, row_pos hg.axis' j b⟩)
      rw [vfull_at d i X ft f (a + j.val) (by omega)]
      refine (congrArg _ ey.symm).trans ?_
      rw [View.write_emb_of_mem _ _ (Finset.mem_univ _)]
      congr 1
      rw [tsrc_read]
      unfold gval tval
      congr 1
      funext b
      match b with
      | 0 =>
        apply Fin.ext
        rw [ix1_val]
        refine (congrArg Fin.val (Shape.Gathers.rowIdx_axis hg _ _)).trans ?_
        refine (congrArg BitVec.toNat (hread _ (hlt _))).trans ?_
        exact congrArg (fun p => (want X p).toNat) (list_ix hn j (by omega) _)
    · have eL : (ib.slice (Rect.unit (s := S8000) ![a] (Sh o).size hi) (fun _ => rfl)).view.emb ((Sh o).rowMajor.symm (Fin.cast hn.symm j))
          = ib.view.emb (ix1 (a₀ + (j₀ + j.val)) (by omega)) := by
        refine (list_emb ib (M := 8000) hi (hn := hn) j (by omega)).trans ?_
        congr 1; congr 1; omega
      iapply (Entails.of_eq (congrArg (fun y => (ib.view.loc (thr d i) ↦[{y}]{fullShare} fi : sProp 𝕄)) eL)) $$ Hi
  have e : WPT d i (SparseCore.enqueueIndirectGather hp (tsrc tb) (vb.slice (Rect.unit (s := S8064) ![a] (Sh o).size hv) (fun _ => rfl)) hg
          (ib.slice (Rect.unit (s := S8000) ![a] (Sh o).size hi) (fun _ => rfl)) hn sem hsrc he hsp hr) (fun _ =>
        iprop(Some tb.view.set ft ∗ (vb.view.loc (thr d i) ↦[fromSet vb (a + o)]{fullShare} f) ∗ (ib.view.loc (thr d i) ↦[fromSet ib (a + o)]{fullShare} fi)
          ∗ Batch (EC (F := F)) (thr d i) (.dma sem) ιw N (pieces d i X ft (vb := vb) f fi a₀ n h) (j₀ + o) 0))
      = WPT d i (SparseCore.enqueueIndirectGather hp (tsrc tb) (vb.slice (Rect.unit (s := S8064) ![a] (Sh o).size hv) (fun _ => rfl)) hg
          (ib.slice (Rect.unit (s := S8000) ![a] (Sh o).size hi) (fun _ => rfl)) hn sem hsrc he hsp hr >>= fun u => pure u) (fun _ =>
        iprop(Some tb.view.set ft ∗ (vb.view.loc (thr d i) ↦[fromSet vb (a + o)]{fullShare} f) ∗ (ib.view.loc (thr d i) ↦[fromSet ib (a + o)]{fullShare} fi)
          ∗ Batch (EC (F := F)) (thr d i) (.dma sem) ιw N (pieces d i X ft (vb := vb) f fi a₀ n h) (j₀ + o) 0)) := by
    rw [bind_pure]
  rw [e]
  iapply (wp_gatherBatch EC 𝒱₀ (thr d i) none (hg := hg) (hn := hn) (src := tsrc tb) (dst := vb.slice (Rect.unit (s := S8064) ![a] (Sh o).size hv) (fun _ => rfl))
    (offs := ib.slice (Rect.unit (s := S8000) ![a] (Sh o).size hi) (fun _ => rfl)) (q := q) (qo := fullShare) (fs := ft) (fd := f) (fo := fi) (u := 0) (j₀ := j₀) (o := o)
    (D := pieces d i X ft (vb := vb) f fi a₀ n h) ιw N hN hs hin rfl hj (Nat.zero_le _) hD) $$ [Ht Hv Hi HB]
  · isplitl [Ht]; · iexact Ht
    isplitl [Hv]; · iexact Hv
    isplitl [Hi]; · iexact Hi
    iexact HB
  · iintro HB
    iapply (Entails.of_eq (wp_ret ..).symm)
    imodintro
    isplitl [HT]; · iexact HT
    isplitl [Hvr]; · iexact Hvr
    isplitl [Hir]; · iexact Hir
    iexact HB

end Cert.Proof.Lookup
-- ==== Proof.Lists.lean ====
/-
  A chunk's gathers, as two groups of steps: all of them started, and all of them waited for. Sixty-two of 128 entries
  share one semaphore; the last 64 entries have their own. When all are waited for, entry `p` of the value buffer holds
  the table's entry for triple `p` of the chunk.
-/
module

public import proofs.«01_k».proof.Proof.Rows

@[expose] public section

noncomputable section

namespace Cert.Proof.Lookup

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

local notation "𝕄" => MT nD τ sig (HIx 1) (Elt F) ℕ (UU F) ℕ

/-- Consecutive single places, put in front of what follows them. -/
theorem places_join (d : Dev nD) (i : grid0.Coords) {sp : Space} {e : EltTy} {M : ℕ} (m : Memref sig .scVector sp (Sh M) e) (f : Buf (Elt F) (m.view.loc (thr d i)))
    (a n : ℕ) (h : a + n ≤ M) :
    iprop(bigSep (Finset.univ : Finset (Fin n)) (fun t => (m.view.loc (thr d i) ↦[{m.view.emb (ix1 (a + t.val) (by have := t.isLt; omega))}]{fullShare} f : sProp 𝕄))
        ∗ (m.view.loc (thr d i) ↦[fromSet m (a + n)]{fullShare} f))
      ⊢ (m.view.loc (thr d i) ↦[fromSet m a]{fullShare} f) := by
  rw [← pointsTo_biUnion]
  · iintro ⟨H1, H2⟩
    have hsub : fromSet m (a + n) ⊆ fromSet m a := by
      intro x hx
      obtain ⟨p, hp, rfl⟩ := Finset.mem_map.mp hx
      have := (Finset.mem_filter.mp hp).2
      exact Finset.mem_map.mpr ⟨p, Finset.mem_filter.mpr ⟨Finset.mem_univ _, by omega⟩, rfl⟩
    have hd : fromSet m a \ fromSet m (a + n)
        = (Finset.univ : Finset (Fin n)).biUnion fun t => {m.view.emb (ix1 (a + t.val) (by have := t.isLt; omega))} := by
      ext x
      constructor
      · intro hx
        obtain ⟨h1, h2⟩ := Finset.mem_sdiff.mp hx
        obtain ⟨p, hp, rfl⟩ := Finset.mem_map.mp h1
        have h3 := (Finset.mem_filter.mp hp).2
        have h4 : (p 0).val < a + n := by
          by_contra hc
          exact h2 (Finset.mem_map.mpr ⟨p, Finset.mem_filter.mpr ⟨Finset.mem_univ _, by omega⟩, rfl⟩)
        refine Finset.mem_biUnion.mpr ⟨⟨(p 0).val - a, by omega⟩, Finset.mem_univ _, Finset.mem_singleton.mpr ?_⟩
        refine congrArg m.view.emb ?_
        refine (ix1_eta p).symm.trans ?_
        congr 1
        show (p 0).val = a + ((p 0).val - a)
        omega
      · intro hx
        obtain ⟨t, -, h1⟩ := Finset.mem_biUnion.mp hx
        rw [Finset.mem_singleton.mp h1]
        have := t.isLt
        refine Finset.mem_sdiff.mpr ⟨Finset.mem_map.mpr ⟨_, Finset.mem_filter.mpr ⟨Finset.mem_univ _, by rw [ix1_val]; omega⟩, rfl⟩, ?_⟩
        intro h2
        obtain ⟨p, hp, e⟩ := Finset.mem_map.mp h2
        have h3 := (Finset.mem_filter.mp hp).2
        rw [m.view.emb.injective e, ix1_val] at h3
        omega
    iapply (pointsTo_split_subset hsub).2
    isplitl [H2]; · iexact H2
    rw [hd]; iexact H1
  · intro t _ t' _ hne
    rw [Finset.disjoint_singleton]
    intro e
    have := congrArg (fun p : (Sh M).Idx => (p 0).val) (m.view.emb.injective e)
    simp only [ix1_val] at this
    exact hne (Fin.ext (by omega))

variable (d : Dev nD) (i : grid0.Coords)
variable {tb : Memref sig .scVector .hbm S16777216 .f32} {ib : Memref sig .scVector .vmem S8000 .i32} {vb : Memref sig .scVector .vmem S8064 .f32}
variable {sem sem' : DmaSems sig S_}
variable (X : Fin 3 → S8000.Idx → Elt F .i32) (ft : Buf (Elt F) (tb.view.loc (thr d i)))

/-- The value buffer, holding anything. -/
def VFree (vb : Memref sig .scVector .vmem S8064 .f32) : sProp 𝕄 :=
  iprop(∃ f : Buf (Elt F) (vb.view.loc (thr d i)), vb.view.loc (thr d i) ↦[vb.view.set]{fullShare} f)

/-- The value buffer, holding the chunk's values. -/
def VReady (vb : Memref sig .scVector .vmem S8064 .f32) : sProp 𝕄 :=
  iprop(∃ f : Buf (Elt F) (vb.view.loc (thr d i)), ⌜(vsrc vb).view.read (Elt F) f = gval d i X ft⌝
    ∗ (vb.view.loc (thr d i) ↦[vb.view.set]{fullShare} f))

/-- All gathers in flight. -/
def GBusy (ib : Memref sig .scVector .vmem S8000 .i32) (vb : Memref sig .scVector .vmem S8064 .f32) (sem sem' : DmaSems sig S_) (N N' : ℕ) : sProp 𝕄 :=
  iprop(∃ (f : Buf (Elt F) (vb.view.loc (thr d i))) (fi : Buf (Elt F) (ib.view.loc (thr d i))),
    (vb.view.loc (thr d i) ↦[fromSet vb 8000]{fullShare} f) ∗ (ib.view.loc (thr d i) ↦[fromSet ib 8000]{fullShare} fi)
    ∗ Batch (EC (F := F)) (thr d i) (.dma sem.sem) ιw N (pieces d i X ft (vb := vb) f fi 0 7936 (by omega)) 7936 0
    ∗ Batch (EC (F := F)) (thr d i) (.dma sem'.sem) ιw N' (pieces d i X ft (vb := vb) f fi 7936 64 (by omega)) 64 0)

variable [FloatOps F] {N N' : ℕ}

/-- All gathers started. -/
theorem gStarts_run (hN : ∀ n j, ((vdst vb n).slice (S128.rowRect gathers_S16777216_S128.axis' j) (S128.stride_rowRect gathers_S16777216_S128.axis' j)).view.dmaCredit = N)
    (hN' : ∀ j, ((vtail vb).slice (S64.rowRect gathers_S16777216_S64.axis' j) (S64.stride_rowRect gathers_S16777216_S64.axis' j)).view.dmaCredit = N') :
    iprop(Some tb.view.set ft ∗ VFree d i vb ∗ IUpto d i X ib 8000 ∗ semVal (thr d i, .dma sem.sem) 0 ∗ semVal (thr d i, .dma sem'.sem) 0)
      ⊢ WPT d i (seqs (gStarts i tb ib vb sem sem')) fun _ => iprop(Some tb.view.set ft ∗ GBusy d i X ft ib vb sem sem' N N') := by
  unfold VFree IUpto
  iintro ⟨HT, ⟨%f, Hv⟩, ⟨%fi, %hfi, Hi⟩, Hs, Hs'⟩
  have hfi' : ∀ p, ib.view.read (Elt F) fi p = want X p := fun p => hfi p (p 0).isLt
  have hgo : iprop(Some tb.view.set ft ∗ (vb.view.loc (thr d i) ↦[fromSet vb (128 * 0)]{fullShare} f) ∗ (ib.view.loc (thr d i) ↦[fromSet ib (128 * 0)]{fullShare} fi)
        ∗ Batch (EC (F := F)) (thr d i) (.dma sem.sem) ιw N (pieces d i X ft (vb := vb) f fi 0 7936 (by omega)) (128 * 0) 0
        ∗ Batch (EC (F := F)) (thr d i) (.dma sem'.sem) ιw N' (pieces d i X ft (vb := vb) f fi 7936 64 (by omega)) 0 0)
      ⊢ WPT d i (seqs (gStarts i tb ib vb sem sem')) fun _ => iprop(Some tb.view.set ft ∗ GBusy d i X ft ib vb sem sem' N N') := by
    refine run_append d i (Q := iprop(Some tb.view.set ft ∗ (vb.view.loc (thr d i) ↦[fromSet vb (128 * 62)]{fullShare} f) ∗ (ib.view.loc (thr d i) ↦[fromSet ib (128 * 62)]{fullShare} fi)
        ∗ Batch (EC (F := F)) (thr d i) (.dma sem.sem) ιw N (pieces d i X ft (vb := vb) f fi 0 7936 (by omega)) (128 * 62) 0
        ∗ Batch (EC (F := F)) (thr d i) (.dma sem'.sem) ιw N' (pieces d i X ft (vb := vb) f fi 7936 64 (by omega)) 0 0))
      (run_each d i (gStart i tb ib vb sem) (fun k => iprop(Some tb.view.set ft ∗ (vb.view.loc (thr d i) ↦[fromSet vb (128 * k)]{fullShare} f)
        ∗ (ib.view.loc (thr d i) ↦[fromSet ib (128 * k)]{fullShare} fi)
        ∗ Batch (EC (F := F)) (thr d i) (.dma sem.sem) ιw N (pieces d i X ft (vb := vb) f fi 0 7936 (by omega)) (128 * k) 0
        ∗ Batch (EC (F := F)) (thr d i) (.dma sem'.sem) ιw N' (pieces d i X ft (vb := vb) f fi 7936 64 (by omega)) 0 0)) ?_)
      (run_last d i ?_)
    · intro k
      have hk := k.isLt
      iintro ⟨HT, Hv, Hi, HB, HB'⟩
      iapply (wp_wand_r frame)
      isplitl [HT Hv Hi HB]
      · iapply (gather_run d i X ft (tb := tb) (ib := ib) (vb := vb) (o := 128) (a := 128 * k.val) (inb128 k) (inb128' k) N (hN k) (by omega) f fi hfi'
          (a₀ := 0) (n := 7936) (j₀ := 128 * k.val) (by omega) (by omega) (by omega)) $$ [HT Hv Hi HB]
        isplitl [HT]; · iexact HT
        isplitl [Hv]; · iexact Hv
        isplitl [Hi]; · iexact Hi
        iexact HB
      · iintro %u ⟨HT, Hv, Hi, HB⟩
        rw [show 128 * (k.val + 1) = 128 * k.val + 128 by omega]
        isplitl [HT]; · iexact HT
        isplitl [Hv]; · iexact Hv
        isplitl [Hi]; · iexact Hi
        isplitl [HB]; · iexact HB
        iexact HB'
    · iintro ⟨HT, Hv, Hi, HB, HB'⟩
      iapply (wp_wand_r frame)
      isplitl [HT Hv Hi HB']
      · iapply (gather_run d i X ft (tb := tb) (ib := ib) (vb := vb) (o := 64) (a := 7936) inb_S8064_S64_7936 inb_S8000_S64_7936 N' hN' (by omega) f fi hfi'
          (a₀ := 7936) (n := 64) (j₀ := 0) (by omega) (by omega) (by omega)) $$ [HT Hv Hi HB']
        isplitl [HT]; · iexact HT
        isplitl [Hv]; · iexact Hv
        isplitl [Hi]; · iexact Hi
        iexact HB'
      · iintro %u ⟨HT, Hv, Hi, HB'⟩
        isplitl [HT]; · iexact HT
        unfold GBusy
        iexists f, fi
        isplitl [Hv]; · iexact Hv
        isplitl [Hi]; · iexact Hi
        isplitl [HB]; · iexact HB
        iexact HB'
  rw [← fromSet_zero vb, ← fromSet_zero ib]
  imod (batch_alloc' EC (thr d i) (sm := .dma sem.sem) ιw N (pieces d i X ft (vb := vb) f fi 0 7936 (by omega)) (E := Set.univ)) $$ Hs with HB
  imod (batch_alloc' EC (thr d i) (sm := .dma sem'.sem) ιw N' (pieces d i X ft (vb := vb) f fi 7936 64 (by omega)) (E := Set.univ)) $$ Hs' with HB'
  iapply hgo
  isplitl [HT]; · iexact HT
  isplitl [Hv]; · iexact Hv
  isplitl [Hi]; · iexact Hi
  isplitl [HB]; · iexact HB
  iexact HB'

/-- The shared semaphore's gathers after `k` of the sixty-two waits: nothing is back until the last. -/
def waitUpto (f : Buf (Elt F) (vb.view.loc (thr d i))) (fi : Buf (Elt F) (ib.view.loc (thr d i))) (sem : DmaSems sig S_) (N k : ℕ) : sProp 𝕄 :=
  if k < 62 then Batch (EC (F := F)) (thr d i) (.dma sem.sem) ιw N (pieces d i X ft (vb := vb) f fi 0 7936 (by omega)) 7936 (128 * k * N)
  else iprop(bigSep Finset.univ (pieces d i X ft (vb := vb) f fi 0 7936 (by omega)) ∗ semVal (thr d i, .dma sem.sem) 0)

omit [FloatOps F] in
/-- Every row delivered, the two buffers are whole again, and the values have landed. -/
theorem pieces_collect (f : Buf (Elt F) (vb.view.loc (thr d i))) (fi : Buf (Elt F) (ib.view.loc (thr d i))) :
    iprop((vb.view.loc (thr d i) ↦[fromSet vb 8000]{fullShare} f) ∗ (ib.view.loc (thr d i) ↦[fromSet ib 8000]{fullShare} fi)
        ∗ bigSep Finset.univ (pieces d i X ft (vb := vb) f fi 0 7936 (by omega))
        ∗ bigSep Finset.univ (pieces d i X ft (vb := vb) f fi 7936 64 (by omega)))
      ⊢ iprop(VReady d i X ft vb ∗ IFree d i ib) := by
  unfold pieces piece
  rw [bigSep_sep', bigSep_sep']
  have ev : ((vb.view.loc (thr d i) ↦[fromSet vb 8000]{fullShare} f) : sProp 𝕄) = (vb.view.loc (thr d i) ↦[fromSet vb 8000]{fullShare} vfull d i X ft vb f) := by
    refine pointsTo_congr fun x hx => ?_
    unfold vfull
    rw [View.write_of_not_mem]
    intro h
    obtain ⟨p, hp, rfl⟩ := Finset.mem_map.mp hx
    have h1 := (Finset.mem_filter.mp hp).2
    have h2 := (mem_stretch vb (M := 8064) (o := 8000) (a := 0) inb_S8064_S8000_0 p).1 h
    omega
  rw [ev]
  iintro ⟨Hv, Hi, ⟨Hv0, Hi0⟩, Hv1, Hi1⟩
  isplitl [Hv Hv0 Hv1]
  · unfold VReady
    iexists vfull d i X ft vb f
    isplitl []
    · ipureintro
      unfold vfull
      exact View.read_write_univ ..
    rw [← fromSet_zero vb]
    iapply (places_join d i vb (vfull d i X ft vb f) 0 7936 (by omega))
    isplitl [Hv0]; · iexact Hv0
    iapply (places_join d i vb (vfull d i X ft vb f) 7936 64 (by omega))
    isplitl [Hv1]; · iexact Hv1
    iexact Hv
  · unfold IFree
    iexists fi
    rw [← fromSet_zero ib]
    iapply (places_join d i ib fi 0 7936 (by omega))
    isplitl [Hi0]; · iexact Hi0
    iapply (places_join d i ib fi 7936 64 (by omega))
    isplitl [Hi1]; · iexact Hi1
    iexact Hi

/-- Two lists of steps, the second's condition under the first. -/
theorem wpt_append (ps qs : List (PT F i)) (Q : PUnit → sProp 𝕄) :
    WPT d i (seqs (ps ++ qs)) Q = WPT d i (seqs ps) fun _ => WPT d i (seqs qs) Q := by
  rw [seqs_append]; exact wp_bind ..

/-- All gathers waited for. -/
theorem gWaits_run {O : CellTallies nD τ sig (HIx 1)} {W : Waits sig (HIx 1)} (hN : ∀ n, (vdst vb n).view.dmaCredit = 128 * N) (hN' : (vtail vb).view.dmaCredit = 64 * N')
    (h0 : 0 < N) (h0' : 0 < N') :
    iprop(GBusy d i X ft ib vb sem sem' N N' ∗ Ow d i O W ∗ Mw d i O)
      ⊢ WPT d i (seqs (gWaits i tb vb sem sem')) fun _ =>
        iprop((VReady d i X ft vb ∗ IFree d i ib ∗ semVal (thr d i, .dma sem.sem) 0 ∗ semVal (thr d i, .dma sem'.sem) 0) ∗ Ow d i O W ∗ Mw d i O) := by
  iintro ⟨HG, HO, Hm⟩
  unfold GBusy
  icases HG with ⟨%f, %fi, Hv, Hi, HB, HB'⟩
  have hgo : iprop(waitUpto d i X ft f fi sem N 0 ∗ Ow d i O W ∗ Mw d i O)
      ⊢ WPT d i (seqs (each62 i (gWait i tb vb sem))) fun _ => iprop(waitUpto d i X ft f fi sem N 62 ∗ Ow d i O W ∗ Mw d i O) := by
    refine run_each d i (gWait i tb vb sem) (fun k => iprop(waitUpto d i X ft f fi sem N k ∗ Ow d i O W ∗ Mw d i O)) ?_
    intro k
    have hk := k.isLt
    unfold waitUpto
    rw [if_pos hk]
    by_cases h : k.val + 1 < 62
    · rw [if_pos h]
      rw [show 128 * (k.val + 1) * N = 128 * k.val * N + 128 * N by ring]
      exact wait_some d i (sem := sem.sem) (N := N) (n := 7936) (j := 7936) (u := 128 * k.val * N) 128 (hN k) (by nlinarith)
    · rw [if_neg h]
      iintro H
      iapply (wp_wand_r frame)
      isplitl [H]
      · iapply (wait_last d i (sem := sem.sem) (N := N) (n := 7936) (u := 128 * k.val * N) (J := 128 * N) (hN k) h0
          (by rw [show k.val = 61 by omega]; ring)) $$ H
      · iintro %u ⟨H1, H2, HO, Hm⟩
        isplitl [H1 H2]
        · isplitl [H1]; · iexact H1
          iexact H2
        isplitl [HO]; · iexact HO
        iexact Hm
  have htail : iprop(Batch (EC (F := F)) (thr d i) (.dma sem'.sem) ιw N' (pieces d i X ft (vb := vb) f fi 7936 64 (by omega)) 64 0 ∗ Ow d i O W ∗ Mw d i O)
      ⊢ WPT d i (seqs [tWait i tb vb sem']) fun _ => iprop(bigSep Finset.univ (pieces d i X ft (vb := vb) f fi 7936 64 (by omega))
        ∗ semVal (thr d i, .dma sem'.sem) 0 ∗ Ow d i O W ∗ Mw d i O) :=
    run_last d i (wait_last d i (sem := sem'.sem) (N := N') (n := 64) (u := 0) (J := 64 * N') hN' h0' (by ring))
  unfold gWaits
  rw [wpt_append]
  iapply (wp_wand_r frame)
  isplitl [HB HO Hm]
  · iapply hgo
    isplitl [HB]
    · unfold waitUpto; rw [if_pos (by omega), Nat.mul_zero, Nat.zero_mul]; iexact HB
    isplitl [HO]; · iexact HO
    iexact Hm
  iintro %u ⟨HW, HO, Hm⟩
  iapply (wp_wand_r frame)
  isplitl [HB' HO Hm]
  · iapply htail
    isplitl [HB']; · iexact HB'
    isplitl [HO]; · iexact HO
    iexact Hm
  iintro %u' ⟨HD', Hs', HO, Hm⟩
  isplitr [HO Hm]
  · ihave HW := (Entails.of_eq (show waitUpto d i X ft f fi sem N 62 = iprop(bigSep Finset.univ (pieces d i X ft (vb := vb) f fi 0 7936 (by omega))
        ∗ semVal (thr d i, .dma sem.sem) 0) from if_neg (by omega))) $$ HW
    icases HW with ⟨HD, Hs⟩
    ihave HC := (pieces_collect d i X ft f fi) $$ [Hv Hi HD HD']
    · isplitl [Hv]; · iexact Hv
      isplitl [Hi]; · iexact Hi
      isplitl [HD]; · iexact HD
      iexact HD'
    icases HC with ⟨HV, HI⟩
    isplitl [HV]; · iexact HV
    isplitl [HI]; · iexact HI
    isplitl [Hs]; · iexact Hs
    iexact Hs'
  isplitl [HO]; · iexact HO
  iexact Hm

end Cert.Proof.Lookup
-- ==== Proof.Outs.lean ====
/-
  The copies out. Two tiles may write the same stretch of the output, with the same values, so the output is held in
  write mode: every tile holds a share of the whole of it, with the values it is to hold agreed beforehand, and marks the
  stretches it has written.
-/
module

public import proofs.«01_k».proof.Proof.Lists

@[expose] public section

noncomputable section

namespace Cert.Proof.Lookup

open Cert.KernelIdeal Cert.KernelIdeal.Gen
open Idealize.ShloMosaic
open Idealize.ShloMosaic.SparseCore.Cfg (HIx)
open Idealize.SL Idealize.SL.RA Idealize.SL.BI
open scoped Idealize.SL.BI Idealize.SL.RA
open Idealize.SL.BI.BIBase Idealize.SL.BI.Laws Idealize.SL.ProofMode Idealize.SL.Sem
open Idealize.ShloMosaic.Transfers

variable {F : FTy → Type}

local notation "𝕄" => MT nD τ sig (HIx 1) (Elt F) ℕ (UU F) ℕ

/-- Share `q` of the whole of a buffer in write mode: it held `f`, it is to hold `T`, and this share has seen `W` written. -/
abbrev Will (ℓ : Loc nD τ sig) (q : PosShare TreeShare) (f T : Buf (Elt F) ℓ) (W : Finset (Idx ℓ)) : sProp 𝕄 :=
  willBeTo (Ix := HIx 1) (WE (F := F)) ℓ Finset.univ q f (fun x => some (T x)) W

/-- A share is two shares, what they have seen together. -/
theorem will_share {ℓ : Loc nD τ sig} {q q₁ q₂ : PosShare TreeShare} (h : q ∈ PCS.op q₁ q₂) (f T : Buf (Elt F) ℓ) (W₁ W₂ : Finset (Idx ℓ)) :
    (Will ℓ q f T (W₁ ∪ W₂) : sProp 𝕄) ⊣⊢ iprop(Will ℓ q₁ f T W₁ ∗ Will ℓ q₂ f T W₂) :=
  BI.Region.held_share h fun x _ => by
    simp only [Finset.mem_union, Bool.decide_or]; exact Idealize.SL.RA.Region.WB.mem_mk_op_mk ..

variable (d : Dev nD) (i : grid0.Coords)
variable {tb : Memref sig .scVector .hbm S16777216 .f32} {vb : Memref sig .scVector .vmem S8064 .f32} {out : Memref sig .scVector .hbm S1000000 .f32}
variable {sem : DmaSems sig S_}
variable (X : Fin 3 → S8000.Idx → Elt F .i32) (ft : Buf (Elt F) (tb.view.loc (thr d i)))

/-- One copy out in flight: the chunk it fills is written by the time it is waited for. -/
def OBusy (g : Fin 4) (vb : Memref sig .scVector .vmem S8064 .f32) (out : Memref sig .scVector .hbm S1000000 .f32) (sem : DmaSems sig S_) (N : ℕ)
    (q : PosShare TreeShare) (f T : Buf (Elt F) (out.view.loc (thr d i))) (W : Finset (Idx (out.view.loc (thr d i)))) : sProp 𝕄 :=
  iprop(∃ fv : Buf (Elt F) (vb.view.loc (thr d i)), (vb.view.loc (thr d i) ↦[vb.view.set \ (vsrc vb).view.set]{fullShare} fv)
    ∗ Batch (EC (F := F)) (thr d i) (.dma sem.sem) ιw N
        (fun _ : Fin 1 => iprop((vb.view.loc (thr d i) ↦[(vsrc vb).view.set]{fullShare} fv) ∗ Will (out.view.loc (thr d i)) q f T (W ∪ (odst i g out).view.set))) 1 0)

variable [FloatOps F] {N : ℕ} {ιm : ℕ} {q : PosShare TreeShare} {f T : Buf (Elt F) (out.view.loc (thr d i))} {W : Finset (Idx (out.view.loc (thr d i)))}

/-- The copy out started. -/
theorem oStart_run (g : Fin 4) (hN : (odst i g out).view.dmaCredit = N) (hT : (odst i g out).view.read (Elt F) T = gval d i X ft) :
    iprop(wmInv (Ix := HIx 1) (WE (F := F)) ιm ∗ VReady d i X ft vb ∗ semVal (thr d i, .dma sem.sem) 0 ∗ Will (out.view.loc (thr d i)) q f T W)
      ⊢ WPT d i (seqs [oStart i g out vb sem]) fun _ => OBusy d i g vb out sem N q f T W := by
  refine run_last d i ?_
  unfold VReady oStart
  iintro ⟨#Hinv, ⟨%fv, %hv, Hv⟩, Hs, Hw⟩
  imod (batch_alloc' (EC (F := F)) (thr d i) (sm := .dma sem.sem) ιw N
    (fun _ : Fin 1 => iprop((vb.view.loc (thr d i) ↦[(vsrc vb).view.set]{fullShare} fv) ∗ Will (out.view.loc (thr d i)) q f T (W ∪ (odst i g out).view.set)))
    (E := Set.univ)) $$ Hs with HB
  ihave Hv' := (pointsTo_split_subset (q := fullShare) (f := fv) (I := (vsrc vb).view.set) (S := vb.view.set) (View.set_slice_subset ..)).1 $$ Hv
  icases Hv' with ⟨Hv, Hvr⟩
  unfold Batch
  icases HB with ⟨%γ, %γ₀, %κ, #HI, HC, H0, Hcr⟩
  have hadm : (odst i g out).view.Admitted (Elt F) (fun x => some (T x)) ((vsrc vb).view.read (Elt F) fv) Finset.univ := by
    rw [View.admitted_some_iff]
    intro x _
    rw [hT, hv]
  have hD : iprop(Will (out.view.loc (thr d i)) q f T (W ∪ (odst i g out).view.set) ∗ ((vsrc vb).view.loc (thr d i) ↦[(vsrc vb).view.set]{fullShare} fv))
      ⊢ (fun _ : Fin 1 => iprop((vb.view.loc (thr d i) ↦[(vsrc vb).view.set]{fullShare} fv) ∗ (Will (out.view.loc (thr d i)) q f T (W ∪ (odst i g out).view.set) : sProp 𝕄))) 0 := by
    iintro ⟨H1, H2⟩
    isplitl [H2]; · iexact H2
    iexact H1
  have hp : bigSep (pending 0) (fun t : Fin 1 => (count (EC (F := F)) (γ t) 0 : sProp 𝕄)) ⊢ count (EC (F := F)) (γ 0) 0 := by
    rw [pending_zero, bigSep_univ_of_subsingleton (0 : Fin 1)]
  ihave HC := hp $$ HC
  iapply (wp_enqueueDmaAs 𝒱₀ (thr d i) none Set.univ (src := vsrc vb) (via := .same) (dst := odst i g out) (q := fullShare) (fs := fv) ιw N
    (show (odst i g out).view.amount (.dma sem.sem) = N from hN)) $$ [Hv Hw] [HC]
  · isplitl [Hv]; · iexact Hv
    iapply (willBeTo_writeUpdate (thr d i) (v := (odst i g out).view) (Finset.subset_univ _) hadm) $$ [Hw]
    isplitl []; · iexact Hinv
    iexact Hw
  · iapply (batch_creditUpdate EC (D := fun _ : Fin 1 => iprop((vb.view.loc (thr d i) ↦[(vsrc vb).view.set]{fullShare} fv) ∗ Will (out.view.loc (thr d i)) q f T (W ∪ (odst i g out).view.set))) (0 : Fin 1) hD)
    isplitr; · iexact HI
    iexact HC
  iintro Hcr'
  iapply (Entails.of_eq (wp_ret ..).symm)
  imodintro
  unfold OBusy Batch
  iexists fv
  isplitl [Hvr]; · iexact Hvr
  iexists γ, γ₀, κ
  isplitr; · iexact HI
  isplitl []
  · rw [show (pending 1 : Finset (Fin 1)) = ∅ from rfl, bigSep_empty]
    iempintro
  isplitl [H0]; · iexact H0
  rw [show 1 * N - 0 = N by omega]
  iexact Hcr'

/-- The copy out waited for. -/
theorem oWait_run {O : CellTallies nD τ sig (HIx 1)} {Wt : Waits sig (HIx 1)} (g : Fin 4) (hN : (odst i g out).view.dmaCredit = N) (h0 : 0 < N) :
    iprop(OBusy d i g vb out sem N q f T W ∗ Ow d i O Wt ∗ Mw d i O)
      ⊢ WPT d i (seqs [oWait i g out vb sem]) fun _ =>
        iprop((VFree d i vb ∗ semVal (thr d i, .dma sem.sem) 0 ∗ Will (out.view.loc (thr d i)) q f T (W ∪ (odst i g out).view.set)) ∗ Ow d i O Wt ∗ Mw d i O) := by
  refine run_last d i ?_
  unfold OBusy
  iintro ⟨⟨%fv, Hvr, HB⟩, HO, Hm⟩
  iapply (wp_wand_r frame)
  isplitl [HB HO Hm]
  · iapply (wait_last d i (sem := sem.sem) (N := N) (n := 1) (u := 0) (J := N) (srcw := vsrc vb) (dstw := odst i g out) hN h0 (by omega)) $$ [HB HO Hm]
    isplitl [HB]; · iexact HB
    isplitl [HO]; · iexact HO
    iexact Hm
  iintro %u ⟨HD, Hs, HO, Hm⟩
  ihave HD := (Entails.of_eq (bigSep_univ_of_subsingleton (0 : Fin 1))) $$ HD
  icases HD with ⟨Hv, Hw⟩
  isplitr [HO Hm]
  · isplitl [Hv Hvr]
    · unfold VFree
      iexists fv
      iapply (pointsTo_split_subset (q := fullShare) (f := fv) (I := (vsrc vb).view.set) (S := vb.view.set) (View.set_slice_subset ..)).2
      isplitl [Hv]; · iexact Hv
      iexact Hvr
    isplitl [Hs]; · iexact Hs
    iexact Hw
  isplitl [HO]; · iexact HO
  iexact Hm

end Cert.Proof.Lookup
-- ==== Proof.Text.lean ====
/-
  The printed task is the list of steps (`Steps`): each printed window is its steps, and the whole body the windows in
  order.
-/
module

public import proofs.«01_k».proof.Proof.Steps

@[expose] public section

noncomputable section

namespace Cert.Proof.Lookup

open Cert.KernelIdeal Cert.KernelIdeal.Gen
open Idealize.ShloMosaic Idealize.SL.Sem

variable {F : FTy → Type} [FloatOps F]

section Text

variable (i : grid0.Coords)
variable (arg2 : Memref sig .scVector .hbm S3x1000000 .i32) (harg2 : arg2.IsWhole) (arg3 : Memref sig .scVector .hbm S16777216 .f32) (harg3 : arg3.IsWhole) (arg4 : Memref sig .scVector .hbm S1000000 .f32) (harg4 : arg4.IsWhole) (arg5 : Memref sig .scVector .vmem S4x8064 .i32) (harg5 : arg5.IsWhole) (arg6 : Memref sig .scVector .vmem S4x8064 .i32) (harg6 : arg6.IsWhole) (arg7 : Memref sig .scVector .vmem S8000 .i32) (harg7 : arg7.IsWhole) (arg8 : Memref sig .scVector .vmem S8000 .i32) (harg8 : arg8.IsWhole) (arg9 : Memref sig .scVector .vmem S8064 .f32) (harg9 : arg9.IsWhole) (arg10 : Memref sig .scVector .vmem S8064 .f32) (harg10 : arg10.IsWhole) (arg11 : DmaSems sig S_) (arg12 : DmaSems sig S_) (arg13 : DmaSems sig S_) (arg14 : DmaSems sig S_) (arg15 : DmaSems sig S_) (arg16 : DmaSems sig S_) (arg17 : DmaSems sig S_) (arg18 : DmaSems sig S_)

/-- Printed window 13, as its steps. -/
theorem part13 : ∃ r, k0_part13 (F := F) i arg2 harg2 arg3 harg3 arg4 harg4 arg5 harg5 arg6 harg6 arg7 harg7 arg8 harg8 arg9 harg9 arg10 harg10 arg11 arg12 arg13 arg14 arg15 arg16 arg17 arg18  = seqs [xStart i 0 arg2 arg5 arg11 0, xStart i 0 arg2 arg5 arg11 1, xStart i 0 arg2 arg5 arg11 2] >>= fun _ => pure r :=
  ⟨_, rfl⟩

/-- Printed window 14, as its steps. -/
theorem part14 : ∀ (v1 : BitVec 32) (v32 : BitVec 32) (v33 : BitVec 1) (v34 : BitVec 32), k0_part14 (F := F) i arg2 harg2 arg3 harg3 arg4 harg4 arg5 harg5 arg6 harg6 arg7 harg7 arg8 harg8 arg9 harg9 arg10 harg10 arg11 arg12 arg13 arg14 arg15 arg16 arg17 arg18 v1 v32 v33 v34 = seqs [xStart i 1 arg2 arg6 arg12 0, xStart i 1 arg2 arg6 arg12 1, xStart i 1 arg2 arg6 arg12 2] :=
  fun v1 v32 v33 v34 => rfl

/-- Printed window 15, as its steps. -/
theorem part15 : k0_part15 (F := F) i arg2 harg2 arg3 harg3 arg4 harg4 arg5 harg5 arg6 harg6 arg7 harg7 arg8 harg8 arg9 harg9 arg10 harg10 arg11 arg12 arg13 arg14 arg15 arg16 arg17 arg18  = seqs [xWait i 0 arg2 arg5 arg11 0, xWait i 0 arg2 arg5 arg11 1, xWait i 0 arg2 arg5 arg11 2, chunkLoop i arg5 arg7, gStart i arg3 arg7 arg9 arg13 0, gStart i arg3 arg7 arg9 arg13 1, gStart i arg3 arg7 arg9 arg13 2] :=
  rfl

/-- Printed window 16, as its steps. -/
theorem part16 : k0_part16 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg7 arg9 arg13 3, gStart i arg3 arg7 arg9 arg13 4, gStart i arg3 arg7 arg9 arg13 5, gStart i arg3 arg7 arg9 arg13 6, gStart i arg3 arg7 arg9 arg13 7, gStart i arg3 arg7 arg9 arg13 8, gStart i arg3 arg7 arg9 arg13 9, gStart i arg3 arg7 arg9 arg13 10] :=
  rfl

/-- Printed window 17, as its steps. -/
theorem part17 : k0_part17 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg7 arg9 arg13 11, gStart i arg3 arg7 arg9 arg13 12, gStart i arg3 arg7 arg9 arg13 13, gStart i arg3 arg7 arg9 arg13 14, gStart i arg3 arg7 arg9 arg13 15, gStart i arg3 arg7 arg9 arg13 16, gStart i arg3 arg7 arg9 arg13 17, gStart i arg3 arg7 arg9 arg13 18, gStart i arg3 arg7 arg9 arg13 19] :=
  rfl

/-- Printed window 18, as its steps. -/
theorem part18 : k0_part18 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg7 arg9 arg13 20, gStart i arg3 arg7 arg9 arg13 21, gStart i arg3 arg7 arg9 arg13 22, gStart i arg3 arg7 arg9 arg13 23, gStart i arg3 arg7 arg9 arg13 24, gStart i arg3 arg7 arg9 arg13 25, gStart i arg3 arg7 arg9 arg13 26, gStart i arg3 arg7 arg9 arg13 27] :=
  rfl

/-- Printed window 19, as its steps. -/
theorem part19 : k0_part19 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg7 arg9 arg13 28, gStart i arg3 arg7 arg9 arg13 29, gStart i arg3 arg7 arg9 arg13 30, gStart i arg3 arg7 arg9 arg13 31, gStart i arg3 arg7 arg9 arg13 32, gStart i arg3 arg7 arg9 arg13 33, gStart i arg3 arg7 arg9 arg13 34, gStart i arg3 arg7 arg9 arg13 35, gStart i arg3 arg7 arg9 arg13 36] :=
  rfl

/-- Printed window 20, as its steps. -/
theorem part20 : k0_part20 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg7 arg9 arg13 37, gStart i arg3 arg7 arg9 arg13 38, gStart i arg3 arg7 arg9 arg13 39, gStart i arg3 arg7 arg9 arg13 40, gStart i arg3 arg7 arg9 arg13 41, gStart i arg3 arg7 arg9 arg13 42, gStart i arg3 arg7 arg9 arg13 43, gStart i arg3 arg7 arg9 arg13 44] :=
  rfl

/-- Printed window 21, as its steps. -/
theorem part21 : k0_part21 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg7 arg9 arg13 45, gStart i arg3 arg7 arg9 arg13 46, gStart i arg3 arg7 arg9 arg13 47, gStart i arg3 arg7 arg9 arg13 48, gStart i arg3 arg7 arg9 arg13 49, gStart i arg3 arg7 arg9 arg13 50, gStart i arg3 arg7 arg9 arg13 51, gStart i arg3 arg7 arg9 arg13 52, gStart i arg3 arg7 arg9 arg13 53] :=
  rfl

/-- Printed window 22, as its steps. -/
theorem part22 : k0_part22 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg7 arg9 arg13 54, gStart i arg3 arg7 arg9 arg13 55, gStart i arg3 arg7 arg9 arg13 56, gStart i arg3 arg7 arg9 arg13 57, gStart i arg3 arg7 arg9 arg13 58, gStart i arg3 arg7 arg9 arg13 59, gStart i arg3 arg7 arg9 arg13 60, gStart i arg3 arg7 arg9 arg13 61, tStart i arg3 arg7 arg9 arg15] :=
  rfl

/-- Printed window 23, as its steps. -/
theorem part23 : ∀ (v1 : BitVec 32), k0_part23 (F := F) i arg2 harg2 arg3 harg3 arg4 harg4 arg5 harg5 arg6 harg6 arg7 harg7 arg8 harg8 arg9 harg9 arg10 harg10 arg11 arg12 arg13 arg14 arg15 arg16 arg17 arg18 v1 = seqs [xStart i 2 arg2 arg5 arg11 0, xStart i 2 arg2 arg5 arg11 1, xStart i 2 arg2 arg5 arg11 2] :=
  fun v1 => rfl

/-- Printed window 24, as its steps. -/
theorem part24 : k0_part24 (F := F) i arg2 harg2 arg3 harg3 arg4 harg4 arg5 harg5 arg6 harg6 arg7 harg7 arg8 harg8 arg9 harg9 arg10 harg10 arg11 arg12 arg13 arg14 arg15 arg16 arg17 arg18  = seqs [xWait i 1 arg2 arg6 arg12 0, xWait i 1 arg2 arg6 arg12 1, xWait i 1 arg2 arg6 arg12 2, chunkLoop i arg6 arg8, gStart i arg3 arg8 arg10 arg14 0, gStart i arg3 arg8 arg10 arg14 1] :=
  rfl

/-- Printed window 25, as its steps. -/
theorem part25 : k0_part25 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg8 arg10 arg14 2, gStart i arg3 arg8 arg10 arg14 3, gStart i arg3 arg8 arg10 arg14 4, gStart i arg3 arg8 arg10 arg14 5, gStart i arg3 arg8 arg10 arg14 6, gStart i arg3 arg8 arg10 arg14 7, gStart i arg3 arg8 arg10 arg14 8, gStart i arg3 arg8 arg10 arg14 9] :=
  rfl

/-- Printed window 26, as its steps. -/
theorem part26 : k0_part26 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg8 arg10 arg14 10, gStart i arg3 arg8 arg10 arg14 11, gStart i arg3 arg8 arg10 arg14 12, gStart i arg3 arg8 arg10 arg14 13, gStart i arg3 arg8 arg10 arg14 14, gStart i arg3 arg8 arg10 arg14 15, gStart i arg3 arg8 arg10 arg14 16, gStart i arg3 arg8 arg10 arg14 17, gStart i arg3 arg8 arg10 arg14 18] :=
  rfl

/-- Printed window 27, as its steps. -/
theorem part27 : k0_part27 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg8 arg10 arg14 19, gStart i arg3 arg8 arg10 arg14 20, gStart i arg3 arg8 arg10 arg14 21, gStart i arg3 arg8 arg10 arg14 22, gStart i arg3 arg8 arg10 arg14 23, gStart i arg3 arg8 arg10 arg14 24, gStart i arg3 arg8 arg10 arg14 25, gStart i arg3 arg8 arg10 arg14 26] :=
  rfl

/-- Printed window 28, as its steps. -/
theorem part28 : k0_part28 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg8 arg10 arg14 27, gStart i arg3 arg8 arg10 arg14 28, gStart i arg3 arg8 arg10 arg14 29, gStart i arg3 arg8 arg10 arg14 30, gStart i arg3 arg8 arg10 arg14 31, gStart i arg3 arg8 arg10 arg14 32, gStart i arg3 arg8 arg10 arg14 33, gStart i arg3 arg8 arg10 arg14 34, gStart i arg3 arg8 arg10 arg14 35] :=
  rfl

/-- Printed window 29, as its steps. -/
theorem part29 : k0_part29 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg8 arg10 arg14 36, gStart i arg3 arg8 arg10 arg14 37, gStart i arg3 arg8 arg10 arg14 38, gStart i arg3 arg8 arg10 arg14 39, gStart i arg3 arg8 arg10 arg14 40, gStart i arg3 arg8 arg10 arg14 41, gStart i arg3 arg8 arg10 arg14 42, gStart i arg3 arg8 arg10 arg14 43, gStart i arg3 arg8 arg10 arg14 44] :=
  rfl

/-- Printed window 30, as its steps. -/
theorem part30 : k0_part30 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg8 arg10 arg14 45, gStart i arg3 arg8 arg10 arg14 46, gStart i arg3 arg8 arg10 arg14 47, gStart i arg3 arg8 arg10 arg14 48, gStart i arg3 arg8 arg10 arg14 49, gStart i arg3 arg8 arg10 arg14 50, gStart i arg3 arg8 arg10 arg14 51, gStart i arg3 arg8 arg10 arg14 52] :=
  rfl

/-- Printed window 31, as its steps. -/
theorem part31 : k0_part31 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg8 arg10 arg14 53, gStart i arg3 arg8 arg10 arg14 54, gStart i arg3 arg8 arg10 arg14 55, gStart i arg3 arg8 arg10 arg14 56, gStart i arg3 arg8 arg10 arg14 57, gStart i arg3 arg8 arg10 arg14 58, gStart i arg3 arg8 arg10 arg14 59, gStart i arg3 arg8 arg10 arg14 60, gStart i arg3 arg8 arg10 arg14 61] :=
  rfl

/-- Printed window 32, as its steps. -/
theorem part32 : k0_part32 (F := F) i arg2 harg2 arg3 harg3 arg4 harg4 arg5 harg5 arg6 harg6 arg7 harg7 arg8 harg8 arg9 harg9 arg10 harg10 arg11 arg12 arg13 arg14 arg15 arg16 arg17 arg18  = seqs [tStart i arg3 arg8 arg10 arg16, gWait i arg3 arg9 arg13 0, gWait i arg3 arg9 arg13 1, gWait i arg3 arg9 arg13 2, gWait i arg3 arg9 arg13 3, gWait i arg3 arg9 arg13 4, gWait i arg3 arg9 arg13 5, gWait i arg3 arg9 arg13 6] :=
  rfl

/-- Printed window 33, as its steps. -/
theorem part33 : k0_part33 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg9 arg13 7, gWait i arg3 arg9 arg13 8, gWait i arg3 arg9 arg13 9, gWait i arg3 arg9 arg13 10, gWait i arg3 arg9 arg13 11, gWait i arg3 arg9 arg13 12, gWait i arg3 arg9 arg13 13, gWait i arg3 arg9 arg13 14, gWait i arg3 arg9 arg13 15] :=
  rfl

/-- Printed window 34, as its steps. -/
theorem part34 : k0_part34 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg9 arg13 16, gWait i arg3 arg9 arg13 17, gWait i arg3 arg9 arg13 18, gWait i arg3 arg9 arg13 19, gWait i arg3 arg9 arg13 20, gWait i arg3 arg9 arg13 21, gWait i arg3 arg9 arg13 22, gWait i arg3 arg9 arg13 23] :=
  rfl

/-- Printed window 35, as its steps. -/
theorem part35 : k0_part35 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg9 arg13 24, gWait i arg3 arg9 arg13 25, gWait i arg3 arg9 arg13 26, gWait i arg3 arg9 arg13 27, gWait i arg3 arg9 arg13 28, gWait i arg3 arg9 arg13 29, gWait i arg3 arg9 arg13 30, gWait i arg3 arg9 arg13 31, gWait i arg3 arg9 arg13 32] :=
  rfl

/-- Printed window 36, as its steps. -/
theorem part36 : k0_part36 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg9 arg13 33, gWait i arg3 arg9 arg13 34, gWait i arg3 arg9 arg13 35, gWait i arg3 arg9 arg13 36, gWait i arg3 arg9 arg13 37, gWait i arg3 arg9 arg13 38, gWait i arg3 arg9 arg13 39, gWait i arg3 arg9 arg13 40, gWait i arg3 arg9 arg13 41] :=
  rfl

/-- Printed window 37, as its steps. -/
theorem part37 : k0_part37 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg9 arg13 42, gWait i arg3 arg9 arg13 43, gWait i arg3 arg9 arg13 44, gWait i arg3 arg9 arg13 45, gWait i arg3 arg9 arg13 46, gWait i arg3 arg9 arg13 47, gWait i arg3 arg9 arg13 48, gWait i arg3 arg9 arg13 49] :=
  rfl

/-- Printed window 38, as its steps. -/
theorem part38 : k0_part38 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg9 arg13 50, gWait i arg3 arg9 arg13 51, gWait i arg3 arg9 arg13 52, gWait i arg3 arg9 arg13 53, gWait i arg3 arg9 arg13 54, gWait i arg3 arg9 arg13 55, gWait i arg3 arg9 arg13 56, gWait i arg3 arg9 arg13 57, gWait i arg3 arg9 arg13 58] :=
  rfl

/-- Printed window 39, as its steps. -/
theorem part39 : ∀ (v1 : BitVec 32), k0_part39 (F := F) i arg2 harg2 arg3 harg3 arg4 harg4 arg5 harg5 arg6 harg6 arg7 harg7 arg8 harg8 arg9 harg9 arg10 harg10 arg11 arg12 arg13 arg14 arg15 arg16 arg17 arg18 v1 = seqs [gWait i arg3 arg9 arg13 59, gWait i arg3 arg9 arg13 60, gWait i arg3 arg9 arg13 61, tWait i arg3 arg9 arg15, oStart i 0 arg4 arg9 arg17] :=
  fun v1 => rfl

/-- Printed window 40, as its steps. -/
theorem part40 : ∀ (v1 : BitVec 32), k0_part40 (F := F) i arg2 harg2 arg3 harg3 arg4 harg4 arg5 harg5 arg6 harg6 arg7 harg7 arg8 harg8 arg9 harg9 arg10 harg10 arg11 arg12 arg13 arg14 arg15 arg16 arg17 arg18 v1 = seqs [xStart i 3 arg2 arg6 arg12 0, xStart i 3 arg2 arg6 arg12 1, xStart i 3 arg2 arg6 arg12 2, xWait i 2 arg2 arg5 arg11 0] :=
  fun v1 => rfl

/-- Printed window 41, as its steps. -/
theorem part41 : ∀ (v1 : BitVec 32), k0_part41 (F := F) i arg2 harg2 arg3 harg3 arg4 harg4 arg5 harg5 arg6 harg6 arg7 harg7 arg8 harg8 arg9 harg9 arg10 harg10 arg11 arg12 arg13 arg14 arg15 arg16 arg17 arg18 v1 = seqs [xWait i 2 arg2 arg5 arg11 1, xWait i 2 arg2 arg5 arg11 2, chunkLoop i arg5 arg7, oWait i 0 arg4 arg9 arg17, gStart i arg3 arg7 arg9 arg13 0, gStart i arg3 arg7 arg9 arg13 1] :=
  fun v1 => rfl

/-- Printed window 42, as its steps. -/
theorem part42 : k0_part42 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg7 arg9 arg13 2, gStart i arg3 arg7 arg9 arg13 3, gStart i arg3 arg7 arg9 arg13 4, gStart i arg3 arg7 arg9 arg13 5, gStart i arg3 arg7 arg9 arg13 6, gStart i arg3 arg7 arg9 arg13 7, gStart i arg3 arg7 arg9 arg13 8, gStart i arg3 arg7 arg9 arg13 9] :=
  rfl

/-- Printed window 43, as its steps. -/
theorem part43 : k0_part43 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg7 arg9 arg13 10, gStart i arg3 arg7 arg9 arg13 11, gStart i arg3 arg7 arg9 arg13 12, gStart i arg3 arg7 arg9 arg13 13, gStart i arg3 arg7 arg9 arg13 14, gStart i arg3 arg7 arg9 arg13 15, gStart i arg3 arg7 arg9 arg13 16, gStart i arg3 arg7 arg9 arg13 17, gStart i arg3 arg7 arg9 arg13 18] :=
  rfl

/-- Printed window 44, as its steps. -/
theorem part44 : k0_part44 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg7 arg9 arg13 19, gStart i arg3 arg7 arg9 arg13 20, gStart i arg3 arg7 arg9 arg13 21, gStart i arg3 arg7 arg9 arg13 22, gStart i arg3 arg7 arg9 arg13 23, gStart i arg3 arg7 arg9 arg13 24, gStart i arg3 arg7 arg9 arg13 25, gStart i arg3 arg7 arg9 arg13 26] :=
  rfl

/-- Printed window 45, as its steps. -/
theorem part45 : k0_part45 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg7 arg9 arg13 27, gStart i arg3 arg7 arg9 arg13 28, gStart i arg3 arg7 arg9 arg13 29, gStart i arg3 arg7 arg9 arg13 30, gStart i arg3 arg7 arg9 arg13 31, gStart i arg3 arg7 arg9 arg13 32, gStart i arg3 arg7 arg9 arg13 33, gStart i arg3 arg7 arg9 arg13 34, gStart i arg3 arg7 arg9 arg13 35] :=
  rfl

/-- Printed window 46, as its steps. -/
theorem part46 : k0_part46 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg7 arg9 arg13 36, gStart i arg3 arg7 arg9 arg13 37, gStart i arg3 arg7 arg9 arg13 38, gStart i arg3 arg7 arg9 arg13 39, gStart i arg3 arg7 arg9 arg13 40, gStart i arg3 arg7 arg9 arg13 41, gStart i arg3 arg7 arg9 arg13 42, gStart i arg3 arg7 arg9 arg13 43] :=
  rfl

/-- Printed window 47, as its steps. -/
theorem part47 : k0_part47 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg7 arg9 arg13 44, gStart i arg3 arg7 arg9 arg13 45, gStart i arg3 arg7 arg9 arg13 46, gStart i arg3 arg7 arg9 arg13 47, gStart i arg3 arg7 arg9 arg13 48, gStart i arg3 arg7 arg9 arg13 49, gStart i arg3 arg7 arg9 arg13 50, gStart i arg3 arg7 arg9 arg13 51, gStart i arg3 arg7 arg9 arg13 52] :=
  rfl

/-- Printed window 48, as its steps. -/
theorem part48 : k0_part48 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg7 arg9 arg13 53, gStart i arg3 arg7 arg9 arg13 54, gStart i arg3 arg7 arg9 arg13 55, gStart i arg3 arg7 arg9 arg13 56, gStart i arg3 arg7 arg9 arg13 57, gStart i arg3 arg7 arg9 arg13 58, gStart i arg3 arg7 arg9 arg13 59, gStart i arg3 arg7 arg9 arg13 60, gStart i arg3 arg7 arg9 arg13 61] :=
  rfl

/-- Printed window 49, as its steps. -/
theorem part49 : k0_part49 (F := F) i arg2 harg2 arg3 harg3 arg4 harg4 arg5 harg5 arg6 harg6 arg7 harg7 arg8 harg8 arg9 harg9 arg10 harg10 arg11 arg12 arg13 arg14 arg15 arg16 arg17 arg18  = seqs [tStart i arg3 arg7 arg9 arg15, gWait i arg3 arg10 arg14 0, gWait i arg3 arg10 arg14 1, gWait i arg3 arg10 arg14 2, gWait i arg3 arg10 arg14 3, gWait i arg3 arg10 arg14 4, gWait i arg3 arg10 arg14 5, gWait i arg3 arg10 arg14 6] :=
  rfl

/-- Printed window 50, as its steps. -/
theorem part50 : k0_part50 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg10 arg14 7, gWait i arg3 arg10 arg14 8, gWait i arg3 arg10 arg14 9, gWait i arg3 arg10 arg14 10, gWait i arg3 arg10 arg14 11, gWait i arg3 arg10 arg14 12, gWait i arg3 arg10 arg14 13, gWait i arg3 arg10 arg14 14, gWait i arg3 arg10 arg14 15] :=
  rfl

/-- Printed window 51, as its steps. -/
theorem part51 : k0_part51 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg10 arg14 16, gWait i arg3 arg10 arg14 17, gWait i arg3 arg10 arg14 18, gWait i arg3 arg10 arg14 19, gWait i arg3 arg10 arg14 20, gWait i arg3 arg10 arg14 21, gWait i arg3 arg10 arg14 22, gWait i arg3 arg10 arg14 23] :=
  rfl

/-- Printed window 52, as its steps. -/
theorem part52 : k0_part52 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg10 arg14 24, gWait i arg3 arg10 arg14 25, gWait i arg3 arg10 arg14 26, gWait i arg3 arg10 arg14 27, gWait i arg3 arg10 arg14 28, gWait i arg3 arg10 arg14 29, gWait i arg3 arg10 arg14 30, gWait i arg3 arg10 arg14 31, gWait i arg3 arg10 arg14 32] :=
  rfl

/-- Printed window 53, as its steps. -/
theorem part53 : k0_part53 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg10 arg14 33, gWait i arg3 arg10 arg14 34, gWait i arg3 arg10 arg14 35, gWait i arg3 arg10 arg14 36, gWait i arg3 arg10 arg14 37, gWait i arg3 arg10 arg14 38, gWait i arg3 arg10 arg14 39, gWait i arg3 arg10 arg14 40] :=
  rfl

/-- Printed window 54, as its steps. -/
theorem part54 : k0_part54 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg10 arg14 41, gWait i arg3 arg10 arg14 42, gWait i arg3 arg10 arg14 43, gWait i arg3 arg10 arg14 44, gWait i arg3 arg10 arg14 45, gWait i arg3 arg10 arg14 46, gWait i arg3 arg10 arg14 47, gWait i arg3 arg10 arg14 48, gWait i arg3 arg10 arg14 49] :=
  rfl

/-- Printed window 55, as its steps. -/
theorem part55 : k0_part55 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg10 arg14 50, gWait i arg3 arg10 arg14 51, gWait i arg3 arg10 arg14 52, gWait i arg3 arg10 arg14 53, gWait i arg3 arg10 arg14 54, gWait i arg3 arg10 arg14 55, gWait i arg3 arg10 arg14 56, gWait i arg3 arg10 arg14 57, gWait i arg3 arg10 arg14 58] :=
  rfl

/-- Printed window 56, as its steps. -/
theorem part56 : ∀ (v1 : BitVec 32), k0_part56 (F := F) i arg2 harg2 arg3 harg3 arg4 harg4 arg5 harg5 arg6 harg6 arg7 harg7 arg8 harg8 arg9 harg9 arg10 harg10 arg11 arg12 arg13 arg14 arg15 arg16 arg17 arg18 v1 = seqs [gWait i arg3 arg10 arg14 59, gWait i arg3 arg10 arg14 60, gWait i arg3 arg10 arg14 61, tWait i arg3 arg10 arg16, oStart i 1 arg4 arg10 arg18] :=
  fun v1 => rfl

/-- Printed window 57, as its steps. -/
theorem part57 : ∀ (v1 : BitVec 32), k0_part57 (F := F) i arg2 harg2 arg3 harg3 arg4 harg4 arg5 harg5 arg6 harg6 arg7 harg7 arg8 harg8 arg9 harg9 arg10 harg10 arg11 arg12 arg13 arg14 arg15 arg16 arg17 arg18 v1 = seqs [xWait i 3 arg2 arg6 arg12 0, xWait i 3 arg2 arg6 arg12 1, xWait i 3 arg2 arg6 arg12 2, chunkLoop i arg6 arg8, oWait i 1 arg4 arg10 arg18] :=
  fun v1 => rfl

/-- Printed window 58, as its steps. -/
theorem part58 : k0_part58 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg8 arg10 arg14 0, gStart i arg3 arg8 arg10 arg14 1, gStart i arg3 arg8 arg10 arg14 2, gStart i arg3 arg8 arg10 arg14 3, gStart i arg3 arg8 arg10 arg14 4, gStart i arg3 arg8 arg10 arg14 5, gStart i arg3 arg8 arg10 arg14 6, gStart i arg3 arg8 arg10 arg14 7] :=
  rfl

/-- Printed window 59, as its steps. -/
theorem part59 : k0_part59 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg8 arg10 arg14 8, gStart i arg3 arg8 arg10 arg14 9, gStart i arg3 arg8 arg10 arg14 10, gStart i arg3 arg8 arg10 arg14 11, gStart i arg3 arg8 arg10 arg14 12, gStart i arg3 arg8 arg10 arg14 13, gStart i arg3 arg8 arg10 arg14 14, gStart i arg3 arg8 arg10 arg14 15, gStart i arg3 arg8 arg10 arg14 16] :=
  rfl

/-- Printed window 60, as its steps. -/
theorem part60 : k0_part60 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg8 arg10 arg14 17, gStart i arg3 arg8 arg10 arg14 18, gStart i arg3 arg8 arg10 arg14 19, gStart i arg3 arg8 arg10 arg14 20, gStart i arg3 arg8 arg10 arg14 21, gStart i arg3 arg8 arg10 arg14 22, gStart i arg3 arg8 arg10 arg14 23, gStart i arg3 arg8 arg10 arg14 24, gStart i arg3 arg8 arg10 arg14 25] :=
  rfl

/-- Printed window 61, as its steps. -/
theorem part61 : k0_part61 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg8 arg10 arg14 26, gStart i arg3 arg8 arg10 arg14 27, gStart i arg3 arg8 arg10 arg14 28, gStart i arg3 arg8 arg10 arg14 29, gStart i arg3 arg8 arg10 arg14 30, gStart i arg3 arg8 arg10 arg14 31, gStart i arg3 arg8 arg10 arg14 32, gStart i arg3 arg8 arg10 arg14 33] :=
  rfl

/-- Printed window 62, as its steps. -/
theorem part62 : k0_part62 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg8 arg10 arg14 34, gStart i arg3 arg8 arg10 arg14 35, gStart i arg3 arg8 arg10 arg14 36, gStart i arg3 arg8 arg10 arg14 37, gStart i arg3 arg8 arg10 arg14 38, gStart i arg3 arg8 arg10 arg14 39, gStart i arg3 arg8 arg10 arg14 40, gStart i arg3 arg8 arg10 arg14 41, gStart i arg3 arg8 arg10 arg14 42] :=
  rfl

/-- Printed window 63, as its steps. -/
theorem part63 : k0_part63 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg8 arg10 arg14 43, gStart i arg3 arg8 arg10 arg14 44, gStart i arg3 arg8 arg10 arg14 45, gStart i arg3 arg8 arg10 arg14 46, gStart i arg3 arg8 arg10 arg14 47, gStart i arg3 arg8 arg10 arg14 48, gStart i arg3 arg8 arg10 arg14 49, gStart i arg3 arg8 arg10 arg14 50] :=
  rfl

/-- Printed window 64, as its steps. -/
theorem part64 : k0_part64 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg8 arg10 arg14 51, gStart i arg3 arg8 arg10 arg14 52, gStart i arg3 arg8 arg10 arg14 53, gStart i arg3 arg8 arg10 arg14 54, gStart i arg3 arg8 arg10 arg14 55, gStart i arg3 arg8 arg10 arg14 56, gStart i arg3 arg8 arg10 arg14 57, gStart i arg3 arg8 arg10 arg14 58, gStart i arg3 arg8 arg10 arg14 59] :=
  rfl

/-- Printed window 65, as its steps. -/
theorem part65 : k0_part65 (F := F) i arg2 harg2 arg3 harg3 arg4 harg4 arg5 harg5 arg6 harg6 arg7 harg7 arg8 harg8 arg9 harg9 arg10 harg10 arg11 arg12 arg13 arg14 arg15 arg16 arg17 arg18  = seqs [gStart i arg3 arg8 arg10 arg14 60, gStart i arg3 arg8 arg10 arg14 61, tStart i arg3 arg8 arg10 arg16, gWait i arg3 arg9 arg13 0, gWait i arg3 arg9 arg13 1, gWait i arg3 arg9 arg13 2, gWait i arg3 arg9 arg13 3, gWait i arg3 arg9 arg13 4] :=
  rfl

/-- Printed window 66, as its steps. -/
theorem part66 : k0_part66 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg9 arg13 5, gWait i arg3 arg9 arg13 6, gWait i arg3 arg9 arg13 7, gWait i arg3 arg9 arg13 8, gWait i arg3 arg9 arg13 9, gWait i arg3 arg9 arg13 10, gWait i arg3 arg9 arg13 11, gWait i arg3 arg9 arg13 12, gWait i arg3 arg9 arg13 13] :=
  rfl

/-- Printed window 67, as its steps. -/
theorem part67 : k0_part67 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg9 arg13 14, gWait i arg3 arg9 arg13 15, gWait i arg3 arg9 arg13 16, gWait i arg3 arg9 arg13 17, gWait i arg3 arg9 arg13 18, gWait i arg3 arg9 arg13 19, gWait i arg3 arg9 arg13 20, gWait i arg3 arg9 arg13 21, gWait i arg3 arg9 arg13 22] :=
  rfl

/-- Printed window 68, as its steps. -/
theorem part68 : k0_part68 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg9 arg13 23, gWait i arg3 arg9 arg13 24, gWait i arg3 arg9 arg13 25, gWait i arg3 arg9 arg13 26, gWait i arg3 arg9 arg13 27, gWait i arg3 arg9 arg13 28, gWait i arg3 arg9 arg13 29, gWait i arg3 arg9 arg13 30] :=
  rfl

/-- Printed window 69, as its steps. -/
theorem part69 : k0_part69 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg9 arg13 31, gWait i arg3 arg9 arg13 32, gWait i arg3 arg9 arg13 33, gWait i arg3 arg9 arg13 34, gWait i arg3 arg9 arg13 35, gWait i arg3 arg9 arg13 36, gWait i arg3 arg9 arg13 37, gWait i arg3 arg9 arg13 38, gWait i arg3 arg9 arg13 39] :=
  rfl

/-- Printed window 70, as its steps. -/
theorem part70 : k0_part70 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg9 arg13 40, gWait i arg3 arg9 arg13 41, gWait i arg3 arg9 arg13 42, gWait i arg3 arg9 arg13 43, gWait i arg3 arg9 arg13 44, gWait i arg3 arg9 arg13 45, gWait i arg3 arg9 arg13 46, gWait i arg3 arg9 arg13 47] :=
  rfl

/-- Printed window 71, as its steps. -/
theorem part71 : k0_part71 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg9 arg13 48, gWait i arg3 arg9 arg13 49, gWait i arg3 arg9 arg13 50, gWait i arg3 arg9 arg13 51, gWait i arg3 arg9 arg13 52, gWait i arg3 arg9 arg13 53, gWait i arg3 arg9 arg13 54, gWait i arg3 arg9 arg13 55, gWait i arg3 arg9 arg13 56] :=
  rfl

/-- Printed window 72, as its steps. -/
theorem part72 : ∀ (v1 : BitVec 32), k0_part72 (F := F) i arg2 harg2 arg3 harg3 arg4 harg4 arg5 harg5 arg6 harg6 arg7 harg7 arg8 harg8 arg9 harg9 arg10 harg10 arg11 arg12 arg13 arg14 arg15 arg16 arg17 arg18 v1 = seqs [gWait i arg3 arg9 arg13 57, gWait i arg3 arg9 arg13 58, gWait i arg3 arg9 arg13 59, gWait i arg3 arg9 arg13 60, gWait i arg3 arg9 arg13 61, tWait i arg3 arg9 arg15, oStart i 2 arg4 arg9 arg17] :=
  fun v1 => rfl

/-- Printed window 73, as its steps. -/
theorem part73 : k0_part73 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg10 arg14 0, gWait i arg3 arg10 arg14 1, gWait i arg3 arg10 arg14 2, gWait i arg3 arg10 arg14 3, gWait i arg3 arg10 arg14 4, gWait i arg3 arg10 arg14 5, gWait i arg3 arg10 arg14 6, gWait i arg3 arg10 arg14 7, gWait i arg3 arg10 arg14 8] :=
  rfl

/-- Printed window 74, as its steps. -/
theorem part74 : k0_part74 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg10 arg14 9, gWait i arg3 arg10 arg14 10, gWait i arg3 arg10 arg14 11, gWait i arg3 arg10 arg14 12, gWait i arg3 arg10 arg14 13, gWait i arg3 arg10 arg14 14, gWait i arg3 arg10 arg14 15, gWait i arg3 arg10 arg14 16] :=
  rfl

/-- Printed window 75, as its steps. -/
theorem part75 : k0_part75 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg10 arg14 17, gWait i arg3 arg10 arg14 18, gWait i arg3 arg10 arg14 19, gWait i arg3 arg10 arg14 20, gWait i arg3 arg10 arg14 21, gWait i arg3 arg10 arg14 22, gWait i arg3 arg10 arg14 23, gWait i arg3 arg10 arg14 24, gWait i arg3 arg10 arg14 25] :=
  rfl

/-- Printed window 76, as its steps. -/
theorem part76 : k0_part76 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg10 arg14 26, gWait i arg3 arg10 arg14 27, gWait i arg3 arg10 arg14 28, gWait i arg3 arg10 arg14 29, gWait i arg3 arg10 arg14 30, gWait i arg3 arg10 arg14 31, gWait i arg3 arg10 arg14 32, gWait i arg3 arg10 arg14 33] :=
  rfl

/-- Printed window 77, as its steps. -/
theorem part77 : k0_part77 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg10 arg14 34, gWait i arg3 arg10 arg14 35, gWait i arg3 arg10 arg14 36, gWait i arg3 arg10 arg14 37, gWait i arg3 arg10 arg14 38, gWait i arg3 arg10 arg14 39, gWait i arg3 arg10 arg14 40, gWait i arg3 arg10 arg14 41, gWait i arg3 arg10 arg14 42] :=
  rfl

/-- Printed window 78, as its steps. -/
theorem part78 : k0_part78 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg10 arg14 43, gWait i arg3 arg10 arg14 44, gWait i arg3 arg10 arg14 45, gWait i arg3 arg10 arg14 46, gWait i arg3 arg10 arg14 47, gWait i arg3 arg10 arg14 48, gWait i arg3 arg10 arg14 49, gWait i arg3 arg10 arg14 50] :=
  rfl

/-- Printed window 79, as its steps. -/
theorem part79 : k0_part79 (F := F) i arg2 harg2 arg3 harg3 arg4 harg4 arg5 harg5 arg6 harg6 arg7 harg7 arg8 harg8 arg9 harg9 arg10 harg10 arg11 arg12 arg13 arg14 arg15 arg16 arg17 arg18  = seqs [gWait i arg3 arg10 arg14 51, gWait i arg3 arg10 arg14 52, gWait i arg3 arg10 arg14 53, gWait i arg3 arg10 arg14 54, gWait i arg3 arg10 arg14 55, gWait i arg3 arg10 arg14 56, gWait i arg3 arg10 arg14 57, gWait i arg3 arg10 arg14 58, gWait i arg3 arg10 arg14 59] :=
  rfl

/-- Printed window 80, as its steps. -/
theorem part80 : ∀ (v1 : BitVec 32), ∃ r, k0_part80 (F := F) i arg2 harg2 arg3 harg3 arg4 harg4 arg5 harg5 arg6 harg6 arg7 harg7 arg8 harg8 arg9 harg9 arg10 harg10 arg11 arg12 arg13 arg14 arg15 arg16 arg17 arg18 v1 = seqs [gWait i arg3 arg10 arg14 60, gWait i arg3 arg10 arg14 61, tWait i arg3 arg10 arg16, oStart i 3 arg4 arg10 arg18, oWait i 2 arg4 arg9 arg17] >>= fun _ => pure r :=
  fun v1 => ⟨_, rfl⟩

/-- The whole task, group by group. -/
def task : List (List (PT F i)) :=
  [xStarts i 0 arg2 arg5 arg11,
   xStarts i 1 arg2 arg6 arg12,
   xWaits i 0 arg2 arg5 arg11,
   [chunkLoop i arg5 arg7],
   gStarts i arg3 arg7 arg9 arg13 arg15,
   xStarts i 2 arg2 arg5 arg11,
   xWaits i 1 arg2 arg6 arg12,
   [chunkLoop i arg6 arg8],
   gStarts i arg3 arg8 arg10 arg14 arg16,
   gWaits i arg3 arg9 arg13 arg15,
   [oStart i 0 arg4 arg9 arg17],
   xStarts i 3 arg2 arg6 arg12,
   xWaits i 2 arg2 arg5 arg11,
   [chunkLoop i arg5 arg7],
   [oWait i 0 arg4 arg9 arg17],
   gStarts i arg3 arg7 arg9 arg13 arg15,
   gWaits i arg3 arg10 arg14 arg16,
   [oStart i 1 arg4 arg10 arg18],
   xWaits i 3 arg2 arg6 arg12,
   [chunkLoop i arg6 arg8],
   [oWait i 1 arg4 arg10 arg18],
   gStarts i arg3 arg8 arg10 arg14 arg16,
   gWaits i arg3 arg9 arg13 arg15,
   [oStart i 2 arg4 arg9 arg17],
   gWaits i arg3 arg10 arg14 arg16,
   [oStart i 3 arg4 arg10 arg18],
   [oWait i 2 arg4 arg9 arg17],
   [oWait i 3 arg4 arg10 arg18]]

set_option maxRecDepth 20000 in
set_option maxHeartbeats 4000000 in
/-- The printed body is the task. -/
theorem body_eq : cc0__sc_body (F := F) i arg2 harg2 arg3 harg3 arg4 harg4 arg5 harg5 arg6 harg6 arg7 harg7 arg8 harg8 arg9 harg9 arg10 harg10 arg11 arg12 arg13 arg14 arg15 arg16 arg17 arg18 = seqs ((task (F := F) i arg2 arg3 arg4 arg5 arg6 arg7 arg8 arg9 arg10 arg11 arg12 arg13 arg14 arg15 arg16 arg17 arg18).map seqs) := by
  obtain ⟨r13, h13⟩ := part13 (F := F) i arg2 harg2 arg3 harg3 arg4 harg4 arg5 harg5 arg6 harg6 arg7 harg7 arg8 harg8 arg9 harg9 arg10 harg10 arg11 arg12 arg13 arg14 arg15 arg16 arg17 arg18
  have h80 := part80 (F := F) i arg2 harg2 arg3 harg3 arg4 harg4 arg5 harg5 arg6 harg6 arg7 harg7 arg8 harg8 arg9 harg9 arg10 harg10 arg11 arg12 arg13 arg14 arg15 arg16 arg17 arg18
  unfold cc0__sc_body k0_part81
  rw [h13]
  simp only [part14, part15, part16, part17, part18, part19, part20, part21, part22, part23, part24, part25, part26, part27, part28, part29, part30, part31, part32, part33, part34, part35, part36, part37, part38, part39, part40, part41, part42, part43, part44, part45, part46, part47, part48, part49, part50, part51, part52, part53, part54, part55, part56, part57, part58, part59, part60, part61, part62, part63, part64, part65, part66, part67, part68, part69, part70, part71, part72, part73, part74, part75, part76, part77, part78, part79]
  choose r80 h80 using h80
  rw [seqs_flatten]
  have last : ∀ p : PT F i, (p >>= fun _ => pure ⟨⟩) = seqs [p] := fun _ => rfl
  simp only [h80, bind_assoc, pure_bind, last, ← seqs_append]
  rfl

end Text
end Cert.Proof.Lookup
-- ==== Proof.Tile.lean ====
/-
  The whole task of one tile: the groups of Text in their order, each step from what the earlier ones left.
-/
module

public import proofs.«01_k».proof.Proof.Outs
public import proofs.«01_k».proof.Proof.Text

@[expose] public section

noncomputable section

namespace Cert.Proof.Lookup

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

local notation "𝕄" => MT nD τ sig (HIx 1) (Elt F) ℕ (UU F) ℕ

variable (d : Dev nD) (i : grid0.Coords)

/-- One of the tile's two sets of buffers and semaphores, idle. -/
def Half (xb : Memref sig .scVector .vmem S4x8064 .i32) (ib : Memref sig .scVector .vmem S8000 .i32) (vb : Memref sig .scVector .vmem S8064 .f32)
    (semx semg semt semo : DmaSems sig S_) : sProp 𝕄 :=
  iprop(XFree d i xb semx ∗ IFree d i ib ∗ VFree d i vb ∗ semVal (thr d i, .dma semg.sem) 0 ∗ semVal (thr d i, .dma semt.sem) 0 ∗ semVal (thr d i, .dma semo.sem) 0)

/-- What one transfer of each kind counts, for one set of buffers. -/
structure Counts (xb : Memref sig .scVector .vmem S4x8064 .i32) (vb : Memref sig .scVector .vmem S8064 .f32) (Nx Ng Nt : ℕ) : Prop where
  /-- a copied row -/
  x : ∀ c, (xdst xb c).view.dmaCredit = Nx
  x0 : 0 < Nx
  /-- a gathered entry, of the 128 gathered together -/
  g : ∀ n j, ((vdst vb n).slice (S128.rowRect gathers_S16777216_S128.axis' j) (S128.stride_rowRect gathers_S16777216_S128.axis' j)).view.dmaCredit = Ng
  gs : ∀ n, (vdst vb n).view.dmaCredit = 128 * Ng
  g0 : 0 < Ng
  /-- a gathered entry of the last 64 -/
  t : ∀ j, ((vtail vb).slice (S64.rowRect gathers_S16777216_S64.axis' j) (S64.stride_rowRect gathers_S16777216_S64.axis' j)).view.dmaCredit = Nt
  ts : (vtail vb).view.dmaCredit = 64 * Nt
  t0 : 0 < Nt

variable {xt : Memref sig .scVector .hbm S3x1000000 .i32} {tb : Memref sig .scVector .hbm S16777216 .f32} {out : Memref sig .scVector .hbm S1000000 .f32}
  {xb0 xb1 : Memref sig .scVector .vmem S4x8064 .i32} {ib0 ib1 : Memref sig .scVector .vmem S8000 .i32} {vb0 vb1 : Memref sig .scVector .vmem S8064 .f32}
  {semx0 semx1 semg0 semg1 semt0 semt1 semo0 semo1 : DmaSems sig S_}

variable [FloatOps F] {Nx Ng Nt No ιm : ℕ} (fx : Buf (Elt F) (xt.view.loc (thr d i))) (ft : Buf (Elt F) (tb.view.loc (thr d i)))
  (f T : Buf (Elt F) (out.view.loc (thr d i))) (q : Fin 4 → PosShare TreeShare)
  {O : CellTallies nD τ sig (HIx 1)} {W : Waits sig (HIx 1)}

set_option maxHeartbeats 2000000 in
/-- The tile's task: the four chunks looked up and written out, the buffers idle again. -/
theorem task_run (c0 : Counts xb0 vb0 Nx Ng Nt) (c1 : Counts xb1 vb1 Nx Ng Nt) (hNo : ∀ g, (odst i g out).view.dmaCredit = No) (hNo0 : 0 < No)
    (hT : ∀ g, (odst i g out).view.read (Elt F) T = gval d i (xrow d i fx g) ft) :
    iprop(wmInv (Ix := HIx 1) (WE (F := F)) ιm ∗ Some xt.view.set fx ∗ Some tb.view.set ft
        ∗ (Will (out.view.loc (thr d i)) (q 0) f T ∅ ∗ Will (out.view.loc (thr d i)) (q 1) f T ∅ ∗ Will (out.view.loc (thr d i)) (q 2) f T ∅ ∗ Will (out.view.loc (thr d i)) (q 3) f T ∅)
        ∗ Half d i xb0 ib0 vb0 semx0 semg0 semt0 semo0 ∗ Half d i xb1 ib1 vb1 semx1 semg1 semt1 semo1 ∗ Ow d i O W ∗ Mw d i O)
      ⊢ WPT d i (seqs ((task (F := F) i xt tb out xb0 xb1 ib0 ib1 vb0 vb1 semx0 semx1 semg0 semg1 semt0 semt1 semo0 semo1).map seqs)) fun _ =>
        iprop((Will (out.view.loc (thr d i)) (q 0) f T (odst i 0 out).view.set ∗ Will (out.view.loc (thr d i)) (q 1) f T (odst i 1 out).view.set
            ∗ Will (out.view.loc (thr d i)) (q 2) f T (odst i 2 out).view.set ∗ Will (out.view.loc (thr d i)) (q 3) f T (odst i 3 out).view.set)
          ∗ Half d i xb0 ib0 vb0 semx0 semg0 semt0 semo0 ∗ Half d i xb1 ib1 vb1 semx1 semg1 semt1 semo1 ∗ Ow d i O W) := by
  unfold task Half
  simp only [List.map]
  iintro ⟨#Hinv, HX, HT, ⟨Hw0, Hw1, Hw2, Hw3⟩, ⟨HX0, HI0, HV0, Hg0, Ht0, Ho0⟩, ⟨HX1, HI1, HV1, Hg1, Ht1, Ho1⟩, HO, #Hm⟩
  iapply (run_group d i (xStarts_run d i fx c0.x 0)) $$ [HX HX0]
  · isplitl [HX]; · iexact HX
    iexact HX0
  iintro ⟨HX, HX0⟩
  iapply (run_group d i (xStarts_run d i fx c1.x 1)) $$ [HX HX1]
  · isplitl [HX]; · iexact HX
    iexact HX1
  iintro ⟨HX, HX1⟩
  iapply (run_group d i (xWaits_run d i fx c0.x c0.x0 0)) $$ [HX0 HO]
  · isplitl [HX0]; · iexact HX0
    isplitl [HO]; · iexact HO
    iexact Hm
  iintro ⟨HX0, HO, -⟩
  iapply (run_group d i (chunkLoop_run d i fx 0)) $$ [HX0 HI0]
  · isplitl [HX0]; · iexact HX0
    iexact HI0
  iintro ⟨HX0, HI0⟩
  iapply (run_group d i (gStarts_run d i (xrow d i fx 0) ft c0.g c0.t)) $$ [HT HV0 HI0 Hg0 Ht0]
  · isplitl [HT]; · iexact HT
    isplitl [HV0]; · iexact HV0
    isplitl [HI0]; · iexact HI0
    isplitl [Hg0]; · iexact Hg0
    iexact Ht0
  iintro ⟨HT, HG0⟩
  iapply (run_group d i (xStarts_run d i fx c0.x 2)) $$ [HX HX0]
  · isplitl [HX]; · iexact HX
    iexact HX0
  iintro ⟨HX, HX0⟩
  iapply (run_group d i (xWaits_run d i fx c1.x c1.x0 1)) $$ [HX1 HO]
  · isplitl [HX1]; · iexact HX1
    isplitl [HO]; · iexact HO
    iexact Hm
  iintro ⟨HX1, HO, -⟩
  iapply (run_group d i (chunkLoop_run d i fx 1)) $$ [HX1 HI1]
  · isplitl [HX1]; · iexact HX1
    iexact HI1
  iintro ⟨HX1, HI1⟩
  iapply (run_group d i (gStarts_run d i (xrow d i fx 1) ft c1.g c1.t)) $$ [HT HV1 HI1 Hg1 Ht1]
  · isplitl [HT]; · iexact HT
    isplitl [HV1]; · iexact HV1
    isplitl [HI1]; · iexact HI1
    isplitl [Hg1]; · iexact Hg1
    iexact Ht1
  iintro ⟨HT, HG1⟩
  iapply (run_group d i (gWaits_run d i (tb := tb) (xrow d i fx 0) ft c0.gs c0.ts c0.g0 c0.t0)) $$ [HG0 HO]
  · isplitl [HG0]; · iexact HG0
    isplitl [HO]; · iexact HO
    iexact Hm
  iintro ⟨⟨HV0, HI0, Hg0, Ht0⟩, HO, -⟩
  iapply (run_group d i (oStart_run d i (xrow d i fx 0) ft (ιm := ιm) 0 (hNo 0) (hT 0))) $$ [HV0 Ho0 Hw0]
  · isplitr; · iexact Hinv
    isplitl [HV0]; · iexact HV0
    isplitl [Ho0]; · iexact Ho0
    iexact Hw0
  iintro HB0
  iapply (run_group d i (xStarts_run d i fx c1.x 3)) $$ [HX HX1]
  · isplitl [HX]; · iexact HX
    iexact HX1
  iintro ⟨HX, HX1⟩
  iapply (run_group d i (xWaits_run d i fx c0.x c0.x0 2)) $$ [HX0 HO]
  · isplitl [HX0]; · iexact HX0
    isplitl [HO]; · iexact HO
    iexact Hm
  iintro ⟨HX0, HO, -⟩
  iapply (run_group d i (chunkLoop_run d i fx 2)) $$ [HX0 HI0]
  · isplitl [HX0]; · iexact HX0
    iexact HI0
  iintro ⟨HX0, HI0⟩
  iapply (run_group d i (oWait_run d i 0 (hNo 0) hNo0)) $$ [HB0 HO]
  · isplitl [HB0]; · iexact HB0
    isplitl [HO]; · iexact HO
    iexact Hm
  iintro ⟨⟨HV0, Ho0, Hw0⟩, HO, -⟩
  iapply (run_group d i (gStarts_run d i (xrow d i fx 2) ft c0.g c0.t)) $$ [HT HV0 HI0 Hg0 Ht0]
  · isplitl [HT]; · iexact HT
    isplitl [HV0]; · iexact HV0
    isplitl [HI0]; · iexact HI0
    isplitl [Hg0]; · iexact Hg0
    iexact Ht0
  iintro ⟨HT, HG0⟩
  iapply (run_group d i (gWaits_run d i (tb := tb) (xrow d i fx 1) ft c1.gs c1.ts c1.g0 c1.t0)) $$ [HG1 HO]
  · isplitl [HG1]; · iexact HG1
    isplitl [HO]; · iexact HO
    iexact Hm
  iintro ⟨⟨HV1, HI1, Hg1, Ht1⟩, HO, -⟩
  iapply (run_group d i (oStart_run d i (xrow d i fx 1) ft (ιm := ιm) 1 (hNo 1) (hT 1))) $$ [HV1 Ho1 Hw1]
  · isplitr; · iexact Hinv
    isplitl [HV1]; · iexact HV1
    isplitl [Ho1]; · iexact Ho1
    iexact Hw1
  iintro HB1
  iapply (run_group d i (xWaits_run d i fx c1.x c1.x0 3)) $$ [HX1 HO]
  · isplitl [HX1]; · iexact HX1
    isplitl [HO]; · iexact HO
    iexact Hm
  iintro ⟨HX1, HO, -⟩
  iapply (run_group d i (chunkLoop_run d i fx 3)) $$ [HX1 HI1]
  · isplitl [HX1]; · iexact HX1
    iexact HI1
  iintro ⟨HX1, HI1⟩
  iapply (run_group d i (oWait_run d i 1 (hNo 1) hNo0)) $$ [HB1 HO]
  · isplitl [HB1]; · iexact HB1
    isplitl [HO]; · iexact HO
    iexact Hm
  iintro ⟨⟨HV1, Ho1, Hw1⟩, HO, -⟩
  iapply (run_group d i (gStarts_run d i (xrow d i fx 3) ft c1.g c1.t)) $$ [HT HV1 HI1 Hg1 Ht1]
  · isplitl [HT]; · iexact HT
    isplitl [HV1]; · iexact HV1
    isplitl [HI1]; · iexact HI1
    isplitl [Hg1]; · iexact Hg1
    iexact Ht1
  iintro ⟨HT, HG1⟩
  iapply (run_group d i (gWaits_run d i (tb := tb) (xrow d i fx 2) ft c0.gs c0.ts c0.g0 c0.t0)) $$ [HG0 HO]
  · isplitl [HG0]; · iexact HG0
    isplitl [HO]; · iexact HO
    iexact Hm
  iintro ⟨⟨HV0, HI0, Hg0, Ht0⟩, HO, -⟩
  iapply (run_group d i (oStart_run d i (xrow d i fx 2) ft (ιm := ιm) 2 (hNo 2) (hT 2))) $$ [HV0 Ho0 Hw2]
  · isplitr; · iexact Hinv
    isplitl [HV0]; · iexact HV0
    isplitl [Ho0]; · iexact Ho0
    iexact Hw2
  iintro HB0
  iapply (run_group d i (gWaits_run d i (tb := tb) (xrow d i fx 3) ft c1.gs c1.ts c1.g0 c1.t0)) $$ [HG1 HO]
  · isplitl [HG1]; · iexact HG1
    isplitl [HO]; · iexact HO
    iexact Hm
  iintro ⟨⟨HV1, HI1, Hg1, Ht1⟩, HO, -⟩
  iapply (run_group d i (oStart_run d i (xrow d i fx 3) ft (ιm := ιm) 3 (hNo 3) (hT 3))) $$ [HV1 Ho1 Hw3]
  · isplitr; · iexact Hinv
    isplitl [HV1]; · iexact HV1
    isplitl [Ho1]; · iexact Ho1
    iexact Hw3
  iintro HB1
  iapply (run_group d i (oWait_run d i 2 (hNo 2) hNo0)) $$ [HB0 HO]
  · isplitl [HB0]; · iexact HB0
    isplitl [HO]; · iexact HO
    iexact Hm
  iintro ⟨⟨HV0, Ho0, Hw2⟩, HO, -⟩
  iapply (run_group d i (oWait_run d i 3 (hNo 3) hNo0)) $$ [HB1 HO]
  · isplitl [HB1]; · iexact HB1
    isplitl [HO]; · iexact HO
    iexact Hm
  iintro ⟨⟨HV1, Ho1, Hw3⟩, HO, -⟩
  iapply (run_nil d i)
  rw [Finset.empty_union, Finset.empty_union, Finset.empty_union, Finset.empty_union]
  isplitl [Hw0 Hw1 Hw2 Hw3]
  · isplitl [Hw0]; · iexact Hw0
    isplitl [Hw1]; · iexact Hw1
    isplitl [Hw2]; · iexact Hw2
    iexact Hw3
  isplitl [HX0 HI0 HV0 Hg0 Ht0 Ho0]
  · isplitl [HX0]; · iexact HX0
    isplitl [HI0]; · iexact HI0
    isplitl [HV0]; · iexact HV0
    isplitl [Hg0]; · iexact Hg0
    isplitl [Ht0]; · iexact Ht0
    iexact Ho0
  isplitl [HX1 HI1 HV1 Hg1 Ht1 Ho1]
  · isplitl [HX1]; · iexact HX1
    isplitl [HI1]; · iexact HI1
    isplitl [HV1]; · iexact HV1
    isplitl [Hg1]; · iexact Hg1
    isplitl [Ht1]; · iexact Ht1
    iexact Ho1
  iexact HO

end Cert.Proof.Lookup
-- ==== Proof.Shares.lean ====
/-
  Sharing out: what is only read is dealt to any number of readers; a share of the output in write mode is dealt to any
  number of tiles, a remainder kept, and put together again with everything the tiles have marked.
-/
module

public import proofs.«01_k».proof.Proof.Outs

@[expose] public section

noncomputable section

namespace Cert.Proof.Lookup

open Cert.KernelIdeal Cert.KernelIdeal.Gen
open Idealize.ShloMosaic
open Idealize.ShloMosaic.SparseCore.Cfg (HIx)
open Idealize.SL Idealize.SL.RA Idealize.SL.BI
open scoped Idealize.SL.BI Idealize.SL.RA
open Idealize.SL.BI.BIBase Idealize.SL.BI.Laws Idealize.SL.ProofMode Idealize.SL.Sem

variable {F : FTy → Type}

local notation "𝕄" => MT nD τ sig (HIx 1) (Elt F) ℕ (UU F) ℕ

/-- What is left of a share after `n` pieces have been cut off it. -/
def rest (q : PosShare TreeShare) : ℕ → PosShare TreeShare
  | 0 => q
  | n + 1 => rest q.right n

/-- Piece `n` cut off a share. -/
def cut (q : PosShare TreeShare) (n : ℕ) : PosShare TreeShare := (rest q n).left

/-- A family over `n + 1` things: the first, and the others. -/
theorem bigSep_first {n : ℕ} (Φ : Fin (n + 1) → sProp 𝕄) :
    bigSep Finset.univ Φ = iprop(Φ 0 ∗ bigSep Finset.univ fun i : Fin n => Φ i.succ) := by
  have h : (0 : Fin (n + 1)) ∉ Finset.univ.map (Fin.succEmb n) := fun h => by
    obtain ⟨k, -, e⟩ := Finset.mem_map.mp h
    exact Fin.succ_ne_zero k e
  have e : (Finset.univ : Finset (Fin (n + 1))) = insert 0 (Finset.univ.map (Fin.succEmb n)) := by
    ext x
    simp only [Finset.mem_univ, Finset.mem_insert, Finset.mem_map, true_and, true_iff]
    exact (Fin.eq_zero_or_eq_succ x).imp_right fun ⟨k, hk⟩ => ⟨k, hk.symm⟩
  rw [e, bigSep_insert h]
  exact congrArg (fun Q => iprop(Φ 0 ∗ Q)) (bigSep_map (Fin.succEmb n))

/-- Cutting `n` pieces off a share of the output, each with its own marks; the remainder has none. -/
theorem will_deal {ℓ : Loc nD τ sig} (f T : Buf (Elt F) ℓ) : ∀ (n : ℕ) (q : PosShare TreeShare) (W : Fin n → Finset (Idx ℓ)),
    (Will ℓ q f T (Finset.univ.biUnion W) : sProp 𝕄)
      ⊣⊢ iprop((bigSep Finset.univ fun i : Fin n => Will ℓ (cut q i.val) f T (W i)) ∗ Will ℓ (rest q n) f T ∅)
  | 0, q, W => by
    rw [show (Finset.univ.biUnion W) = ∅ from rfl, Finset.univ_eq_empty, bigSep_empty]
    constructor
    · iintro H
      isplitr; · iempintro
      iexact H
    · iintro ⟨-, H⟩
      iexact H
  | n + 1, q, W => by
    have hW : Finset.univ.biUnion W = W 0 ∪ Finset.univ.biUnion fun i : Fin n => W i.succ := by
      ext x
      simp only [Finset.mem_biUnion, Finset.mem_union, Finset.mem_univ, true_and]
      exact Fin.exists_fin_succ
    have h0 := will_share (F := F) (ℓ := ℓ) (PosShare.mem_left_op_right q) f T (W 0) (Finset.univ.biUnion fun i : Fin n => W i.succ)
    have hn := will_deal f T n q.right fun i => W i.succ
    rw [hW, bigSep_first]
    constructor
    · iintro H
      ihave H := h0.1 $$ H
      icases H with ⟨Hl, Hr⟩
      ihave Hr := hn.1 $$ Hr
      icases Hr with ⟨Hr, Hq⟩
      isplitr [Hq]
      · isplitl [Hl]; · iexact Hl
        iexact Hr
      · iexact Hq
    · iintro ⟨⟨Hl, Hr⟩, Hq⟩
      iapply h0.2
      isplitl [Hl]; · iexact Hl
      iapply hn.2
      isplitl [Hr]; · iexact Hr
      iexact Hq

/-- What is only read, dealt out. -/
theorem some_deal {ℓ : Loc nD τ sig} (I : Finset (Idx ℓ)) (f : Buf (Elt F) ℓ) : ∀ n : ℕ,
    (Some I f : sProp 𝕄) ⊢ bigSep Finset.univ fun _ : Fin n => (Some I f : sProp 𝕄)
  | 0 => by
    rw [Finset.univ_eq_empty, bigSep_empty]
    iintro -
    iempintro
  | n + 1 => by
    rw [bigSep_first]
    iintro H
    ihave H := (Some_split I f) $$ H
    icases H with ⟨H, Hr⟩
    isplitl [H]
    · unfold Some; iexact H
    · iapply (some_deal I f n) $$ Hr

/-- A share of the output, dealt to the four slots. -/
theorem will_four {ℓ : Loc nD τ sig} (f T : Buf (Elt F) ℓ) (q : PosShare TreeShare) (W : Fin 4 → Finset (Idx ℓ)) :
    (Will ℓ q f T (Finset.univ.biUnion W) : sProp 𝕄)
      ⊣⊢ iprop((Will ℓ (cut q 0) f T (W 0) ∗ Will ℓ (cut q 1) f T (W 1) ∗ Will ℓ (cut q 2) f T (W 2) ∗ Will ℓ (cut q 3) f T (W 3)) ∗ Will ℓ (rest q 4) f T ∅) := by
  have h := will_deal f T 4 q W
  rw [bigSep_first, bigSep_first, bigSep_first, bigSep_first, show (Finset.univ : Finset (Fin 0)) = ∅ from rfl, bigSep_empty] at h
  constructor
  · iintro H
    ihave H := h.1 $$ H
    icases H with ⟨⟨H0, H1, H2, H3, -⟩, Hr⟩
    isplitr [Hr]
    · isplitl [H0]; · iexact H0
      isplitl [H1]; · iexact H1
      isplitl [H2]; · iexact H2
      iexact H3
    · iexact Hr
  · iintro ⟨⟨H0, H1, H2, H3⟩, Hr⟩
    iapply h.2
    isplitr [Hr]
    · isplitl [H0]; · iexact H0
      isplitl [H1]; · iexact H1
      isplitl [H2]; · iexact H2
      isplitl [H3]; · iexact H3
      iempintro
    · iexact Hr

end Cert.Proof.Lookup
-- ==== Proof.Scratch.lean ====
/-
  A tile's own scratch at the launch: its six buffers and eight semaphores are the two sets the task uses.
-/
module

public import proofs.«01_k».proof.Proof.Tile
public import proofs.«01_k».proof.Proof.Shares

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU F) ℕ

/-- Some members of a set, picked out of a family over it. -/
theorem bigSep_pick {I : Type} [DecidableEq I] {n : ℕ} (g : Fin n ↪ I) {s : Finset I} (h : ∀ k, g k ∈ s) (Φ : I → sProp 𝕄) :
    bigSep s Φ = iprop((bigSep Finset.univ fun k => Φ (g k)) ∗ bigSep (s \ Finset.univ.map g) Φ) := by
  rw [bigSep_sdiff_split (t := Finset.univ.map g) (s := s) (fun x hx => by obtain ⟨k, -, rfl⟩ := Finset.mem_map.mp hx; exact h k), bigSep_map]
  rfl

variable (d : Dev nD) (i : grid0.Coords)

/-- The six scratch buffers. -/
def bufAt (k : Fin 6) : Ref sig .scVector := ⟨.vmem, k, rfl⟩

/-- The eight scratch semaphores. -/
def semAt (k : Fin 8) : DmaSems sig S_ := match k with
  | 0 => cc0_scratch6 | 1 => cc0_scratch7 | 2 => cc0_scratch8 | 3 => cc0_scratch9
  | 4 => cc0_scratch10 | 5 => cc0_scratch11 | 6 => cc0_scratch12 | 7 => cc0_scratch13

/-- The six buffers are different. -/
theorem bufAt_inj : ∀ a b : Fin 6, bufAt a = bufAt b → a = b := by decide

/-- The eight semaphores are different. -/
theorem semAt_inj : ∀ a b : Fin 8, (SemLoc.dma (semAt a).sem : SemLoc sig) = SemLoc.dma (semAt b).sem → a = b := by decide

/-- The buffers as the tile's own. -/
def bufEmb : Fin 6 ↪ DevRef τ sig where
  toFun k := (thr d i).2.devRef (bufAt k)
  inj' a b h := bufAt_inj a b (Proc.devRef_injective _ h)

/-- The semaphores as the tile's own. -/
def semEmb : Fin 8 ↪ GSem nD τ sig where
  toFun k := (thr d i, .dma (semAt k).sem)
  inj' a b h := semAt_inj a b (Prod.mk.inj h).2

/-- A tile's buffers: the six of the kernel, and the others. -/
theorem bufs_pick :
    (ownBufs (thr d i) : sProp 𝕄)
      = iprop((bigSep Finset.univ fun k : Fin 6 => iprop(∃ f, ((thr d i).loc (bufAt k) : Loc nD τ sig) ↦{fullShare} f))
        ∗ bigSep (ownRefs (thr d i).2 \ Finset.univ.map (bufEmb d i)) fun b => iprop(∃ f, ((d, b) : Loc nD τ sig) ↦{fullShare} f)) := by
  unfold ownBufs
  exact bigSep_pick (bufEmb d i) (fun k => SparseCore.Cfg.mem_ownRefs_of_owner rfl) _

/-- A tile's semaphores: the eight of the kernel, and the others. -/
theorem sems_pick :
    (ownSems0 (thr d i) : sProp 𝕄)
      = iprop((bigSep Finset.univ fun k : Fin 8 => semVal (thr d i, .dma (semAt k).sem) 0)
        ∗ bigSep (ownCells (thr d i) \ Finset.univ.map (semEmb d i)) fun g => semVal g 0) := by
  unfold ownSems0
  refine bigSep_pick (semEmb d i) (fun k => mem_ownCells.mpr ⟨rfl, ?_⟩) _
  show (SemLoc.dma (semAt k).sem : SemLoc sig).isScoped .scVector = true
  revert k; decide

/-- The first set: the even buffers and semaphores. -/
abbrev Half0 : sProp 𝕄 :=
  Half d i (Memref.whole cc0_scratch0) (Memref.whole cc0_scratch2) (Memref.whole cc0_scratch4) cc0_scratch6 cc0_scratch8 cc0_scratch10 cc0_scratch12

/-- The second set: the odd ones. -/
abbrev Half1 : sProp 𝕄 :=
  Half d i (Memref.whole cc0_scratch1) (Memref.whole cc0_scratch3) (Memref.whole cc0_scratch5) cc0_scratch7 cc0_scratch9 cc0_scratch11 cc0_scratch13

/-- The rest of what the tile owns. -/
abbrev Other : sProp 𝕄 :=
  iprop((bigSep (ownRefs (thr d i).2 \ Finset.univ.map (bufEmb d i)) fun b => iprop(∃ f, ((d, b) : Loc nD τ sig) ↦{fullShare} f))
    ∗ bigSep (ownCells (thr d i) \ Finset.univ.map (semEmb d i)) fun g => semVal g 0)

/-- A buffer owned whole, at some contents. -/
theorem whole_set (r : Ref sig .scVector) (f : Buf (Elt F) ((thr d i).loc r)) :
    ((thr d i).loc r ↦{fullShare} f : sProp 𝕄) = ((Memref.whole r).view.loc (thr d i) ↦[(Memref.whole r).view.set]{fullShare} f) := by
  rw [show (Memref.whole r).view.set = Finset.univ from View.set_whole _]

/-- A tile's scratch is the two sets, and the rest. -/
theorem scratch_halves :
    (iprop(ownBufs (thr d i) ∗ ownSems0 (thr d i)) : sProp 𝕄) ⊣⊢ iprop(Half0 d i ∗ Half1 d i ∗ Other d i) := by
  rw [bufs_pick, sems_pick]
  have hz : (Finset.univ : Finset (Fin 0)) = ∅ := rfl
  simp only [bigSep_first, hz, bigSep_empty]
  unfold Half0 Half1 Other Half XFree IFree VFree
  constructor
  · iintro ⟨⟨⟨⟨%f0, B0⟩, ⟨%f1, B1⟩, ⟨%f2, B2⟩, ⟨%f3, B3⟩, ⟨%f4, B4⟩, ⟨%f5, B5⟩, -⟩, RB⟩, ⟨S0, S1, S2, S3, S4, S5, S6, S7, -⟩, RS⟩
    ihave B0 := (Entails.of_eq (whole_set d i _ _)) $$ B0
    ihave B1 := (Entails.of_eq (whole_set d i _ _)) $$ B1
    ihave B2 := (Entails.of_eq (whole_set d i _ _)) $$ B2
    ihave B3 := (Entails.of_eq (whole_set d i _ _)) $$ B3
    ihave B4 := (Entails.of_eq (whole_set d i _ _)) $$ B4
    ihave B5 := (Entails.of_eq (whole_set d i _ _)) $$ B5
    isplitl [B0 B2 B4 S0 S2 S4 S6]
    · isplitl [B0 S0]
      · iexists f0
        isplitl [B0]; · iexact B0
        iexact S0
      isplitl [B2]; · iexists f2; iexact B2
      isplitl [B4]; · iexists f4; iexact B4
      isplitl [S2]; · iexact S2
      isplitl [S4]; · iexact S4
      iexact S6
    isplitl [B1 B3 B5 S1 S3 S5 S7]
    · isplitl [B1 S1]
      · iexists f1
        isplitl [B1]; · iexact B1
        iexact S1
      isplitl [B3]; · iexists f3; iexact B3
      isplitl [B5]; · iexists f5; iexact B5
      isplitl [S3]; · iexact S3
      isplitl [S5]; · iexact S5
      iexact S7
    isplitl [RB]; · iexact RB
    iexact RS
  · iintro ⟨⟨⟨%f0, B0, S0⟩, ⟨%f2, B2⟩, ⟨%f4, B4⟩, S2, S4, S6⟩, ⟨⟨%f1, B1, S1⟩, ⟨%f3, B3⟩, ⟨%f5, B5⟩, S3, S5, S7⟩, RB, RS⟩
    ihave B0 := (Entails.of_eq (whole_set d i _ _).symm) $$ B0
    ihave B1 := (Entails.of_eq (whole_set d i _ _).symm) $$ B1
    ihave B2 := (Entails.of_eq (whole_set d i _ _).symm) $$ B2
    ihave B3 := (Entails.of_eq (whole_set d i _ _).symm) $$ B3
    ihave B4 := (Entails.of_eq (whole_set d i _ _).symm) $$ B4
    ihave B5 := (Entails.of_eq (whole_set d i _ _).symm) $$ B5
    isplitl [B0 B1 B2 B3 B4 B5 RB]
    · isplitr [RB]
      · isplitl [B0]; · iexists f0; iexact B0
        isplitl [B1]; · iexists f1; iexact B1
        isplitl [B2]; · iexists f2; iexact B2
        isplitl [B3]; · iexists f3; iexact B3
        isplitl [B4]; · iexists f4; iexact B4
        isplitl [B5]; · iexists f5; iexact B5
        iempintro
      · iexact RB
    · isplitr [RS]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        iempintro
      · iexact RS

end Cert.Proof.Lookup
-- ==== Proof.Chunks.lean ====
/-
  Which chunk a tile's slot handles, in numbers: tile `w` of the 32, slot `g`, handles chunk `(w + 32 g) mod 125`. Together
  the tiles' slots handle every chunk, some twice.
-/
module

public import proofs.«01_k».proof.Proof.Tile

@[expose] public section

noncomputable section

namespace Cert.Proof.Lookup

open Cert.KernelIdeal Cert.KernelIdeal.Gen
open Idealize.ShloMosaic
open Idealize.ShloMosaic.SparseCore.Cfg (HIx)

variable {F : FTy → Type}

/-- The tile on SparseCore `c`, subcore `s`. -/
def tileOf (c : Fin 2) (s : Fin 16) : grid0.Coords := fun a => match a with
  | 0 => c
  | 1 => s

/-- A place of the mesh is given by its core and its tile. -/
theorem tileOf_eta (i : grid0.Coords) : tileOf (i 0) (i 1) = i := by
  funext a; match a with
  | 0 => rfl
  | 1 => rfl

/-- The first entry of the chunk of slot `g`. -/
def base (i : grid0.Coords) (g : Fin 4) : ℕ := 8000 * ((2 * (i 1).val + (i 0).val + 32 * g.val) % 125)

/-- A chunk lies inside the rows. -/
theorem base_le (i : grid0.Coords) (g : Fin 4) : base i g + 8000 ≤ 1000000 := by unfold base; omega

/-- The printed offsets, at every core, tile and slot. -/
theorem offs_of : ∀ (c : Fin 2) (s : Fin 16) (g : Fin 4),
    k0_off1 (tileOf c s) (gw g) 0 = 0 ∧ k0_off1 (tileOf c s) (gw g) 1 = base (tileOf c s) g
    ∧ k0_off2 (tileOf c s) (gw g) 0 = 1 ∧ k0_off2 (tileOf c s) (gw g) 1 = base (tileOf c s) g
    ∧ k0_off3 (tileOf c s) (gw g) 0 = 2 ∧ k0_off3 (tileOf c s) (gw g) 1 = base (tileOf c s) g
    ∧ k0_off12 (tileOf c s) (gw g) 0 = base (tileOf c s) g := by
  decide +kernel

/-- The copy in of row `c` starts in row `c`. -/
theorem xoff_row (i : grid0.Coords) (g : Fin 4) (c : Fin 3) : xoff i g c 0 = c.val := by
  rw [← tileOf_eta i]
  obtain ⟨h1, -, h2, -, h3, -⟩ := offs_of (i 0) (i 1) g
  match c with
  | 0 => exact h1
  | 1 => exact h2
  | 2 => exact h3

/-- The copy in starts at the chunk's first column. -/
theorem xoff_col (i : grid0.Coords) (g : Fin 4) (c : Fin 3) : xoff i g c 1 = base i g := by
  rw [← tileOf_eta i]
  obtain ⟨-, h1, -, h2, -, h3, -⟩ := offs_of (i 0) (i 1) g
  match c with
  | 0 => exact h1
  | 1 => exact h2
  | 2 => exact h3

/-- The copy out starts at the chunk's first row. -/
theorem ooff_eq (i : grid0.Coords) (g : Fin 4) : k0_off12 i (gw g) 0 = base i g := by
  rw [← tileOf_eta i]
  exact (offs_of (i 0) (i 1) g).2.2.2.2.2.2

/-- Entry `n` of row `c` of the transposed indices. -/
def rowAt (c : Fin 3) (n : ℕ) (h : n < 1000000) : S3x1000000.Idx := fun a => match a with
  | 0 => c
  | 1 => (⟨n, h⟩ : Fin 1000000)

section Reads

variable (d : Dev nD) (i : grid0.Coords) (g : Fin 4)
variable {xt : Memref sig .scVector .hbm S3x1000000 .i32} {tb : Memref sig .scVector .hbm S16777216 .f32} {out : Memref sig .scVector .hbm S1000000 .f32}
variable (fx : Buf (Elt F) (xt.view.loc (thr d i))) (ft : Buf (Elt F) (tb.view.loc (thr d i))) (T : Buf (Elt F) (out.view.loc (thr d i)))

/-- An entry of a chunk is one of the rows. -/
theorem chunk_lt (p : S8000.Idx) : base i g + (p 0).val < 1000000 := by
  have := base_le i g
  have : (p 0).val < 8000 := (p 0).isLt
  omega

/-- A chunk's row, read off the transposed indices. -/
theorem xrow_eq (c : Fin 3) (p : S8000.Idx) :
    xrow d i fx g c p = xt.view.read (Elt F) fx (rowAt c (base i g + (p 0).val) (chunk_lt i g p)) := by
  unfold xrow
  rw [View.read_apply, View.read_apply]
  congr 2
  show xt.view.emb ((Rect.unit (s := S3x1000000) (xoff i g c) S1x8000.size (xoff_inb i g c)).emb (Shape.reshapeEquiv _ p)) = xt.view.emb _
  congr 1
  funext a
  apply Fin.ext
  rw [Rect.emb_apply]
  rw [Shape.reshapeEquiv_cons_one (d := ![8000])]
  match a with
  | 0 =>
    show xoff i g c 0 + 1 * 0 = c.val
    rw [xoff_row]; omega
  | 1 =>
    show xoff i g c 1 + 1 * (p 0).val = base i g + (p 0).val
    rw [xoff_col]; omega

/-- A chunk of the output, read off it. -/
theorem oread_eq (p : S8000.Idx) :
    (odst i g out).view.read (Elt F) T p = out.view.read (Elt F) T (ix1 (base i g + (p 0).val) (chunk_lt i g p)) := by
  rw [View.read_apply, View.read_apply]
  congr 2
  show out.view.emb ((Rect.unit (s := S1000000) (k0_off12 i (gw g)) S8000.size (k0_off12_inb i g)).emb p) = out.view.emb _
  congr 1
  funext a
  apply Fin.ext
  rw [Rect.emb_apply]
  match a with
  | 0 =>
    show k0_off12 i (gw g) 0 + 1 * (p 0).val = base i g + (p 0).val
    rw [ooff_eq]; omega

/-- The entry the lookup is to give at `n`. -/
def lookup (n : S1000000.Idx) : Elt F .f32 :=
  tval d i ft (xt.view.read (Elt F) fx (rowAt 0 (n 0).val (n 0).isLt)) (xt.view.read (Elt F) fx (rowAt 1 (n 0).val (n 0).isLt))
    (xt.view.read (Elt F) fx (rowAt 2 (n 0).val (n 0).isLt))

/-- What a chunk's values are, when the output is to hold the lookup. -/
theorem chunk_target (hT : ∀ n, out.view.read (Elt F) T n = lookup d i fx ft n) :
    (odst i g out).view.read (Elt F) T = gval d i (xrow d i fx g) ft := by
  funext p
  rw [oread_eq, hT]
  unfold lookup gval
  rw [xrow_eq, xrow_eq, xrow_eq]
  rfl

/-- The stretch of the output a slot writes. -/
theorem mem_odst (n : S1000000.Idx) : out.view.emb n ∈ (odst i g out).view.set ↔ base i g ≤ (n 0).val ∧ (n 0).val < base i g + 8000 := by
  constructor
  · intro h
    obtain ⟨p, -, e⟩ := Finset.mem_map.mp h
    have e : out.view.emb ((Rect.unit (s := S1000000) (k0_off12 i (gw g)) S8000.size (k0_off12_inb i g)).emb p) = out.view.emb n := e
    have h0 := congrArg (fun x : S1000000.Idx => (x 0).val) (out.view.emb.injective e)
    have h1 : k0_off12 i (gw g) 0 + 1 * (p 0).val = (n 0).val := h0
    have : (p 0).val < 8000 := (p 0).isLt
    rw [ooff_eq] at h1
    omega
  · rintro ⟨h1, h2⟩
    refine Finset.mem_map.mpr ⟨ix1 (M := 8000) ((n 0).val - base i g) (by omega), Finset.mem_univ _, ?_⟩
    show out.view.emb ((Rect.unit (s := S1000000) (k0_off12 i (gw g)) S8000.size (k0_off12_inb i g)).emb _) = out.view.emb n
    congr 1
    funext a
    apply Fin.ext
    rw [Rect.emb_apply]
    match a with
    | 0 =>
      show k0_off12 i (gw g) 0 + 1 * ((n 0).val - base i g) = (n 0).val
      rw [ooff_eq]; omega

end Reads

/-- Every entry is in the chunk of some tile's slot. -/
theorem covered (n : ℕ) (h : n < 1000000) : ∃ (c : Fin 2) (s : Fin 16) (g : Fin 4), base (tileOf c s) g ≤ n ∧ n < base (tileOf c s) g + 8000 := by
  have hk : n / 8000 < 125 := by omega
  refine ⟨⟨n / 8000 % 2, by omega⟩, ⟨n / 8000 % 32 / 2, by omega⟩, ⟨n / 8000 / 32, by omega⟩, ?_⟩
  have e : base (tileOf ⟨n / 8000 % 2, by omega⟩ ⟨n / 8000 % 32 / 2, by omega⟩) ⟨n / 8000 / 32, by omega⟩ = 8000 * (n / 8000) := by
    show 8000 * ((2 * (n / 8000 % 32 / 2) + n / 8000 % 2 + 32 * (n / 8000 / 32)) % 125) = _
    omega
  rw [e]
  omega

end Cert.Proof.Lookup
-- ==== Proof.Obligation.lean ====
/-
  What the launch hands a tile and what it hands back, and the task run against it.
-/
module

public import proofs.«01_k».proof.Proof.Scratch
public import proofs.«01_k».proof.Proof.Chunks

@[expose] public section

noncomputable section

namespace Cert.Proof.Lookup

open Cert.KernelIdeal Cert.KernelIdeal.Gen
open Idealize.ShloMosaic
open Idealize.ShloMosaic.SparseCore (V)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU F) ℕ

/-- The launch runs sixteen tiles on each SparseCore. -/
theorem nSub_zero : (K (F := F)).nSub 0 = 16 := rfl
/-- It runs on two SparseCores. -/
theorem nCore_zero : (K (F := F)).nCore 0 = 2 := rfl
/-- The definitions of the program. -/
abbrev D [FloatOps F] : Defs nD τ sig (Elt F) (ΛP (F := F)) := Pipeline.defs pcfgs defs₀
/-- The variants of the program. -/
abbrev 𝒱 : Variants := 𝒱₀.lift
/-- The variant that everything starts at. -/
abbrev v₀ : 𝒱.V := Sum.inl none

/-- The launch's own semaphores are apart, and none is scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The three arrays -/

/-- The transposed indices. -/
abbrev xLoc (d : Dev nD) : Loc nD τ sig := (SparseCore.T d).loc main_v0
/-- The re-tiled table. -/
abbrev tLoc (d : Dev nD) : Loc nD τ sig := (SparseCore.T d).loc main_v3
/-- The output. -/
abbrev oLoc (d : Dev nD) : Loc nD τ sig := (SparseCore.T d).loc main_v4

/-- The entry of the table that entry `n` of the output is. -/
def entry (X : S3x1000000.Idx → BitVec 32) (TB : S16777216.Idx → F .f32) (n : S1000000.Idx) : F .f32 :=
  TB (ix1 (widx (X (rowAt 0 (n 0).val (n 0).isLt)) (X (rowAt 1 (n 0).val (n 0).isLt)) (X (rowAt 2 (n 0).val (n 0).isLt))).toNat (widx_lt _ _ _))

variable (X : (d : Dev nD) → Buf (Elt F) (xLoc d)) (TB : (d : Dev nD) → Buf (Elt F) (tLoc d)) (f0 : (d : Dev nD) → Buf (Elt F) (oLoc d))

/-- What the output is to hold. -/
abbrev target (d : Dev nD) : Buf (Elt F) (oLoc d) := entry (F := F) (X d) (TB d)

/-- The indices and the table, to read. -/
abbrev ins (d : Dev nD) : sProp 𝕄 := iprop(Some (ℓ := xLoc d) Finset.univ (X d) ∗ Some (ℓ := tLoc d) Finset.univ (TB d))

/-- Share `q` of the output, `W` of it seen written. -/
abbrev outs (d : Dev nD) (q : PosShare TreeShare) (W : Finset (Idx (oLoc d))) : sProp 𝕄 := Will (oLoc d) q (f0 d) (target X TB d) W

/-- The entries a tile writes. -/
def tileSet (d : Dev nD) (i : grid0.Coords) : Finset (Idx (oLoc d)) :=
  Finset.univ.biUnion fun g : Fin 4 => (odst i g (Memref.whole main_v4_scv)).view.set

/-- The entries a SparseCore's tiles write. -/
def coreSet (d : Dev nD) (c : Fin 2) : Finset (Idx (oLoc d)) := Finset.univ.biUnion fun s : Fin 16 => tileSet d (tileOf c s)

/-- What the launch carries. -/
def P : (K (F := F)).Pay (nD := nD) (Val := Elt F) (Name := ℕ) (U := UU F) where
  st := fun q d c => match q with | 0 => iprop(ins X TB d ∗ outs X TB f0 d (cut fullShare c.val) ∅)
  dn := fun q d c => match q with | 0 => outs X TB f0 d (cut fullShare c.val) (coreSet d (Fin.cast nCore_zero c))
  go := fun q d c i => match q with | 0 => iprop(ins X TB d ∗ outs X TB f0 d (cut (cut fullShare c.val) i.val) ∅)
  td := fun q d c i => match q with
    | 0 => outs X TB f0 d (cut (cut fullShare c.val) i.val) (tileSet d (tileOf (Fin.cast nCore_zero c) (Fin.cast nSub_zero i)))
  x := fun _ _ => iprop(∃ ιm : ℕ, wmInv (Ix := HIx 1) (WE (F := F)) ιm)

/-- A share of an array may be kept in an invariant. -/
instance some_storable {ℓ : Loc nD τ sig} (I : Finset (Idx ℓ)) (f : Buf (Elt F) ℓ) :
    BI.Storable (upEmb : UEmb _ 𝕄) (Some I f : sProp 𝕄) := by
  unfold Some; infer_instance

/-- So may all that the launch carries. -/
instance P_storable : (P X TB f0).IsStorable where
  st q d c := match q with
    | 0 => (inferInstance : BI.Storable (upEmb : UEmb _ 𝕄) iprop(ins X TB d ∗ outs X TB f0 d (cut fullShare c.val) ∅))
  dn q d c := match q with
    | 0 => (inferInstance : BI.Storable (upEmb : UEmb _ 𝕄) (outs X TB f0 d (cut fullShare c.val) (coreSet d (Fin.cast nCore_zero c))))
  go q d c i := match q with
    | 0 => (inferInstance : BI.Storable (upEmb : UEmb _ 𝕄) iprop(ins X TB d ∗ outs X TB f0 d (cut (cut fullShare c.val) i.val) ∅))
  td q d c i := match q with
    | 0 => (inferInstance : BI.Storable (upEmb : UEmb _ 𝕄)
      (outs X TB f0 d (cut (cut fullShare c.val) i.val) (tileSet d (tileOf (Fin.cast nCore_zero c) (Fin.cast nSub_zero i)))))

/-! ## The task -/

variable (d : Dev nD) (i : grid0.Coords)

/-- What a transfer into a tile counts is the bits it moves: 256000 for a row, 32 an entry. -/
theorem counts0 : Counts (Memref.whole cc0_scratch0) (Memref.whole cc0_scratch4) 256000 32 32 where
  x _ := by rfl
  x0 := by decide
  g _ _ := by rfl
  gs _ := by rfl
  g0 := by decide
  t _ := by rfl
  ts := by rfl
  t0 := by decide

/-- What the copies of the second buffers add to their counters. -/
theorem counts1 : Counts (Memref.whole cc0_scratch1) (Memref.whole cc0_scratch5) 256000 32 32 where
  x _ := by rfl
  x0 := by decide
  g _ _ := by rfl
  gs _ := by rfl
  g0 := by decide
  t _ := by rfl
  ts := by rfl
  t0 := by decide

variable [FloatOps F]

set_option maxHeartbeats 1000000 in
/-- The task of one tile, from what it is handed to what it hands back. -/
theorem tile_body (O : CellTallies nD τ sig (HIx 1)) (W : Waits sig (HIx 1)) (hO : ∀ g, O g none = 0) (q : PosShare TreeShare) :
    iprop(levAts (K (F := F)).L (K (F := F)).lev ∗ (∃ ιm : ℕ, wmInv (Ix := HIx 1) (WE (F := F)) ιm)
        ∗ (ins X TB d ∗ outs X TB f0 d q ∅)
        ∗ scopedBufs (thr d i) ∗ scopedSems0 (thr d i) ∗ owes (thr d i) O W)
      ⊢ WPT d i (cc0__sc_body (F := F) i (Memref.whole main_v0_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13)
          fun _ => iprop(outs X TB f0 d q (tileSet d i) ∗ scopedBufs (thr d i) ∗ scopedSems0 (thr d i)
            ∗ ∃ W', ⌜∀ p ∈ W', p ∈ W ∨ p.2 = none⌝ ∗ owes (thr d i) O W') := by
  rw [body_eq, (K (F := F)).scopedBufs_V facts d _ _, SparseCore.Cfg.scopedSems0_V (Val := Elt F) d _ _]
  have hs : ∀ r : Ref sig .scVector, (Memref.whole r).view.set = Finset.univ := fun r => View.set_whole r
  have hW : (∅ : Finset (Idx (oLoc d))) = Finset.univ.biUnion fun _ : Fin 4 => ∅ := by
    ext x; simp
  have hT : ∀ g, (odst i g (Memref.whole main_v4_scv)).view.read (Elt F) (target X TB d)
      = gval d i (tb := Memref.whole main_v3_scv) (xrow d i (xt := Memref.whole main_v0_scv) (X d) g) (TB d) :=
    fun g => chunk_target d i g (xt := Memref.whole main_v0_scv) (tb := Memref.whole main_v3_scv) (out := Memref.whole main_v4_scv) (X d) (TB d) (target X TB d) fun n => rfl
  iintro ⟨#Hlv, ⟨%ιm, #Hinv⟩, ⟨⟨HX, HT⟩, Ho⟩, HB, HS, HO⟩
  have hrun := task_run (F := F) d i (ιm := ιm) (xt := Memref.whole main_v0_scv) (tb := Memref.whole main_v3_scv) (out := Memref.whole main_v4_scv)
    (X d) (TB d) (f0 d) (target X TB d) (fun g => cut q g.val) (O := O) (W := W) (No := 256000)
    (semx0 := cc0_scratch6) (semx1 := cc0_scratch7) (semg0 := cc0_scratch8) (semg1 := cc0_scratch9) (semt0 := cc0_scratch10) (semt1 := cc0_scratch11)
    (semo0 := cc0_scratch12) (semo1 := cc0_scratch13) (ib0 := Memref.whole cc0_scratch2) (ib1 := Memref.whole cc0_scratch3)
    counts0 counts1 (fun _ => by rfl) (by decide) hT
  rw [hs, hs] at hrun
  ihave Hm := (show levAts (K (F := F)).L (K (F := F)).lev ⊢ Mw d i O from (K (F := F)).mayWaits_none (thr := thr d i) hO) $$ Hlv
  ihave Hh := (scratch_halves d i).1 $$ [HB HS]
  · isplitl [HB]; · iexact HB
    iexact HS
  icases Hh with ⟨H0, H1, HR⟩
  rw [hW]
  ihave Ho := (will_four (f0 d) (target X TB d) q fun _ => ∅).1 $$ Ho
  icases Ho with ⟨Ho, Hor⟩
  iapply (wp_wand_r frame)
  isplitl [HX HT Ho H0 H1 HO Hm]
  · iapply hrun
    isplitr; · iexact Hinv
    isplitl [HX]; · iexact HX
    isplitl [HT]; · iexact HT
    isplitl [Ho]; · iexact Ho
    isplitl [H0]; · iexact H0
    isplitl [H1]; · iexact H1
    isplitl [HO]
    · unfold Ow
      iexists W
      isplitr; · ipureintro; exact fun p hp => .inl hp
      iexact HO
    iexact Hm
  · iintro %_ ⟨Ho, H0, H1, HO⟩
    isplitl [Ho Hor]
    · unfold tileSet
      iapply (will_four (f0 d) (target X TB d) q fun g => (odst i g (Memref.whole main_v4_scv)).view.set).2
      isplitl [Ho]; · iexact Ho
      iexact Hor
    ihave Hh := (scratch_halves d i).2 $$ [H0 H1 HR]
    · isplitl [H0]; · iexact H0
      isplitl [H1]; · iexact H1
      iexact HR
    icases Hh with ⟨HB, HS⟩
    isplitl [HB]; · iexact HB
    isplitl [HS]; · iexact HS
    unfold Ow
    iexact HO

/-! ## The obligation -/

/-- A tile runs the kernel's body at its place. -/
theorem defs₀_vector (c : Fin τ.nSC) (s : Fin τ.nSub) :
    defs₀ (F := F) (.scVector c s) 0 ()
      = SparseCore.onTile hcore0 hsub0 (fun c s => cc0__sc_body (F := F) (tileOf c s) (Memref.whole main_v0_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) ⟨⟩ c s := by
  have e : ∀ c s, (fun | 0 => c | 1 => s | ⟨_ + 2, h⟩ => absurd h (Nat.not_lt.2 (Nat.le_add_left _ _)) : grid0.Coords) = tileOf c s := fun c s => by
    funext a; match a with
    | 0 => rfl
    | 1 => rfl
  simp only [← e]
  rfl

end Cert.Proof.Lookup
-- ==== Proof.Launch.lean ====
/-
  The launch: the host's four operations, the two SparseCores' thirty-two tasks, the output taken back whole; and what
  every run of the program leaves.
-/
module

public import proofs.«01_k».proof.Proof.Obligation

@[expose] public section

noncomputable section

namespace Cert.Proof.Lookup

open Cert.KernelIdeal Cert.KernelIdeal.Gen
open Idealize.ShloMosaic
open Idealize.ShloMosaic.SparseCore (V)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU F) ℕ

variable (X : (d : Dev nD) → Buf (Elt F) (xLoc d)) (TB : (d : Dev nD) → Buf (Elt F) (tLoc d)) (f0 : (d : Dev nD) → Buf (Elt F) (oLoc d))

/-! ## The tiles -/

/-- What a tile waited on, weakened to the form the launch asks for. -/
theorem waits_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hp, HO⟩
  isplitl [HA]; · iexact HA
  isplitl [HB]; · iexact HB
  isplitl [HC]; · iexact HC
  iexists W'
  isplitr; · ipureintro; exact fun p h => (hp p h).imp id .inl
  iexact HO

/-- Every tile's task meets what the launch asks of it. -/
theorem tileObl [FloatOps F] : (K (F := F)).TileObl (D (F := F)) 𝒱 (P X TB f0) v₀ 0 := by
  intro d c s O W hO _ _
  simp only [show (P X TB f0).ox = fun _ _ => 0 from rfl, add_zero]
  have hc : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]
  simp only [SparseCore.onTile, hc, and_self, ↓reduceDIte]
  exact (tile_body X TB f0 d (tileOf ⟨_, hc.1⟩ ⟨_, hc.2⟩) O W hO (cut (cut fullShare c.val) s.val)).trans (wp_mono frame _ _ fun _ => waits_weaken)

/-- A SparseCore's share dealt to its sixteen tiles, and theirs put together. -/
theorem vecSplit : (K (F := F)).VecSplit' (P X TB f0) 0 := by
  intro d c
  show iprop(ins X TB d ∗ outs X TB f0 d (cut fullShare c.val) ∅) ⊢ |={Set.univ}=> iprop(
      (bigSep Finset.univ fun s : Fin 16 => iprop(ins X TB d ∗ outs X TB f0 d (cut (cut fullShare c.val) s.val) ∅))
      ∗ ((bigSep Finset.univ fun s : Fin 16 => outs X TB f0 d (cut (cut fullShare c.val) s.val) (tileSet d (tileOf (Fin.cast nCore_zero c) s)))
          -∗ outs X TB f0 d (cut fullShare c.val) (coreSet d (Fin.cast nCore_zero c))))
  have h0 : (∅ : Finset (Idx (oLoc d))) = Finset.univ.biUnion fun _ : Fin 16 => ∅ := by
    ext x; simp
  rw [bigSep_sep', bigSep_sep']
  iintro ⟨⟨HX, HT⟩, Ho⟩
  ihave HX := (some_deal _ _ 16) $$ HX
  ihave HT := (some_deal _ _ 16) $$ HT
  ihave Ho := (Entails.of_eq (congrArg (outs X TB f0 d (cut fullShare c.val)) h0)) $$ Ho
  ihave Ho := (will_deal (f0 d) (target X TB d) 16 (cut fullShare c.val) fun _ => ∅).1 $$ Ho
  icases Ho with ⟨Ho, Hr⟩
  imodintro
  isplitl [HX HT Ho]
  · isplitl [HX HT]
    · isplitl [HX]; · iexact HX
      iexact HT
    iexact Ho
  · iintro Hd
    unfold coreSet
    iapply (will_deal (f0 d) (target X TB d) 16 (cut fullShare c.val) fun s => tileSet d (tileOf (Fin.cast nCore_zero c) s)).2
    isplitl [Hd]; · iexact Hd
    iexact Hr

/-- Together the tiles write the whole output. -/
theorem all_written (d : Dev nD) : Finset.univ.biUnion (coreSet d) = Finset.univ := by
  ext x
  simp only [Finset.mem_univ, iff_true, Finset.mem_biUnion, true_and, coreSet, tileSet]
  obtain ⟨c, s, g, h⟩ := covered ((show S1000000.Idx from x) 0).val ((show S1000000.Idx from x) 0).isLt
  exact ⟨c, s, g, (mem_odst (tileOf c s) g (out := Memref.whole main_v4_scv) (show S1000000.Idx from x)).mpr h⟩

/-! ## The resources at the launch -/

/-- The handshakes' cells and the write-mode cells. -/
def u₀ : UU F := (initOf (K (F := F)).hsCells (K (F := F)).hsToks, (wm₀ nD τ sig (Elt F), 1))

/-- The launch's ghost element gives the handshakes and, on each device, the write mode. -/
theorem hu₀ (s : MemSt nD τ sig (Elt F)) : (ownU (u₀ (F := F)) : sProp 𝕄)
    ⊢ |={Set.univ}=> iprop(BI.own (EH (initOf (K (F := F)).hsCells (K (F := F)).hsToks))
        ∗ (bigSep Finset.univ fun _ : Dev nD => iprop(∃ ιm : ℕ, wmInv (Ix := HIx 1) (WE (F := F)) ιm))
        ∗ bigSep Finset.univ fun thr : Thread nD τ => bigSep Finset.univ fun q : Fin 1 => (P X TB f0).x q thr) := by
  unfold u₀
  iintro Hu
  ihave H := (ownU_pair (initOf (K (F := F)).hsCells (K (F := F)).hsToks) (wm₀ nD τ sig (Elt F), (1 : Counters))) $$ Hu
  icases H with ⟨HH, Hw⟩
  ihave Hw := (Entails.of_eq (show BI.own (embR (wm₀ nD τ sig (Elt F), (1 : Counters))) = (ownU (WE (F := F) (wm₀ nD τ sig (Elt F))) : sProp 𝕄) from rfl)) $$ Hw
  imod (wmInv_alloc (Ix := HIx 1) (emb := WE (F := F)) (E := Set.univ) s) $$ Hw with ⟨%ιm, %_, #Hw⟩
  imodintro
  isplitl [HH]; · iexact HH
  have h : (wmInv (Ix := HIx 1) (WE (F := F)) ιm : sProp 𝕄) ⊢ iprop(∃ ιm : ℕ, wmInv (Ix := HIx 1) (WE (F := F)) ιm) := by
    iintro H; iexists ιm; iexact H
  isplitl []
  · iapply (bigSep_intro_persistent (R := wmInv (Ix := HIx 1) (WE (F := F)) ιm) fun _ _ => h)
    iexact Hw
  · iapply (bigSep_intro_persistent (R := wmInv (Ix := HIx 1) (WE (F := F)) ιm) fun _ _ => bigSep_intro_persistent fun _ _ => h)
    iexact Hw

/-! ## The host -/

variable (m : (ℓ : Loc nD τ sig) → Buf (Elt F) ℓ) (ρ : Dev nD → PrngReg)

/-- The argument of indices. -/
abbrev aLoc (d : Dev nD) : Loc nD τ sig := (SparseCore.T d).loc main_arg0
/-- The argument of the table. -/
abbrev bLoc (d : Dev nD) : Loc nD τ sig := (SparseCore.T d).loc main_arg1
/-- A buffer of the TensorCore as the machine names it. -/
abbrev tc (b : Ref sig .tc) : DevRef τ sig := Proc.devRef .tc b

/-- The host's operations: the indices transposed; the table re-tiled. -/
abbrev op0 : HloOp τ sig (Elt F) := StableHlo.unary main_arg0 main_v0 ((transpose S3x1000000 [1, 0] · transposes_S1000000x3_S3x1000000_1_0) : (⟨S1000000x3, .i32⟩ : BufTy).Contents (Elt F) → (⟨S3x1000000, .i32⟩ : BufTy).Contents (Elt F))
/-- The table cut into tiles. -/
abbrev op1 : HloOp τ sig (Elt F) := StableHlo.reshape main_arg1 main_v1 (rfl : (.f32 : EltTy) = .f32) shapeCasts_S256x256x256_S256x32x8x2x128
/-- The tiles' axes exchanged. -/
abbrev op2 : HloOp τ sig (Elt F) := StableHlo.unary main_v1 main_v2 ((transpose S256x32x2x8x128 [0, 1, 3, 2, 4] · transposes_S256x32x8x2x128_S256x32x2x8x128_0_1_3_2_4) : (⟨S256x32x8x2x128, .f32⟩ : BufTy).Contents (Elt F) → (⟨S256x32x2x8x128, .f32⟩ : BufTy).Contents (Elt F))
/-- The tiles laid flat. -/
abbrev op3 : HloOp τ sig (Elt F) := StableHlo.reshape main_v2 main_v3 (rfl : (.f32 : EltTy) = .f32) shapeCasts_S256x32x2x8x128_S16777216

/-- The host's arrays. -/
abbrev HS : Finset (DevRef τ sig) := {tc main_arg0, tc main_arg1, tc main_v0, tc main_v1, tc main_v2, tc main_v3, tc main_v4}

/-- The arrays' contents at the start, and after each operation. -/
def W0 (d : Dev nD) : Valuation τ sig (Elt F) := fun b => m (d, b)
/-- After the first operation. -/
def W1 (d : Dev nD) : Valuation τ sig (Elt F) := (op0 (F := F)).result (W0 m d)
/-- After the second. -/
def W2 (d : Dev nD) : Valuation τ sig (Elt F) := (op1 (F := F)).result (W1 m d)
/-- After the third. -/
def W3 (d : Dev nD) : Valuation τ sig (Elt F) := (op2 (F := F)).result (W2 m d)
/-- After the fourth: what the call finds. -/
def W4 (d : Dev nD) : Valuation τ sig (Elt F) := (op3 (F := F)).result (W3 m d)

/-- The host's buffers, one by one. -/
theorem held_all (d : Dev nD) (W : Valuation τ sig (Elt F)) :
    (held (SparseCore.T d) HS W : sProp 𝕄)
      = iprop((aLoc d ↦{fullShare} W (tc main_arg0)) ∗ (bLoc d ↦{fullShare} W (tc main_arg1)) ∗ (xLoc d ↦{fullShare} W (tc main_v0))
          ∗ ((SparseCore.T d).loc main_v1 ↦{fullShare} W (tc main_v1)) ∗ ((SparseCore.T d).loc main_v2 ↦{fullShare} W (tc main_v2))
          ∗ (tLoc d ↦{fullShare} W (tc main_v3)) ∗ oLoc d ↦{fullShare} W (tc main_v4)) := by
  unfold held HS
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- At the start they are the launch's memory. -/
theorem unscoped_held (d : Dev nD) : (unscopedBufs d (fun b => m ((SparseCore.T d).loc b)) : sProp 𝕄) = held (SparseCore.T d) HS (W0 m d) := by
  rw [held_all]
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The operations leave the arguments. -/
theorem W4_kept (d : Dev nD) (b : Ref sig .tc) (h0 : tc b ∉ ({tc main_v0} : Finset (DevRef τ sig))) (h1 : tc b ∉ ({tc main_v1} : Finset (DevRef τ sig)))
    (h2 : tc b ∉ ({tc main_v2} : Finset (DevRef τ sig))) (h3 : tc b ∉ ({tc main_v3} : Finset (DevRef τ sig))) : W4 m d (tc b) = m (d, tc b) := by
  unfold W4 W3 W2 W1
  rw [(op3 (F := F)).result_of_not_mem _ h3, (op2 (F := F)).result_of_not_mem _ h2, (op1 (F := F)).result_of_not_mem _ h1, (op0 (F := F)).result_of_not_mem _ h0]
  rfl

/-- The indices are left. -/
theorem W4_arg0 (d : Dev nD) : W4 m d (tc main_arg0) = m (aLoc d) := W4_kept m d main_arg0 (by decide) (by decide) (by decide) (by decide)
/-- The table is left. -/
theorem W4_arg1 (d : Dev nD) : W4 m d (tc main_arg1) = m (bLoc d) := W4_kept m d main_arg1 (by decide) (by decide) (by decide) (by decide)

/-- The transposed indices, the re-tiled table and the output, as the call finds them. -/
abbrev callX (d : Dev nD) : Buf (Elt F) (xLoc d) := W4 m d (tc main_v0)
/-- The re-tiled table. -/
abbrev callT (d : Dev nD) : Buf (Elt F) (tLoc d) := W4 m d (tc main_v3)
/-- The output. -/
abbrev callO (d : Dev nD) : Buf (Elt F) (oLoc d) := W4 m d (tc main_v4)

/-- What the output holds at the end. -/
abbrev result (d : Dev nD) : Buf (Elt F) (oLoc d) := target (callX m) (callT m) d

/-- What the launch carries, from these. -/
abbrev PM : (K (F := F)).Pay (nD := nD) (Val := Elt F) (Name := ℕ) (U := UU F) := P (callX m) (callT m) (callO m)

/-- What the two SparseCores are handed, written out. -/
theorem st0_eq (d : Dev nD) : (bigSep Finset.univ fun c : Fin ((K (F := F)).nCore 0) => (PM m).st 0 d c)
    = iprop((ins (callX m) (callT m) d ∗ outs (callX m) (callT m) (callO m) d (cut fullShare 0) ∅) ∗ ins (callX m) (callT m) d ∗ outs (callX m) (callT m) (callO m) d (cut fullShare 1) ∅) :=
  bigSep_univ_two _
/-- What they hand back. -/
theorem dn0_eq (d : Dev nD) : (bigSep Finset.univ fun c : Fin ((K (F := F)).nCore 0) => (PM m).dn 0 d c)
    = bigSep Finset.univ fun c : Fin 2 => outs (callX m) (callT m) (callO m) d (cut fullShare c.val) (coreSet d c) := rfl

/-- What the host leaves: the arguments as they were, the output at the lookups. -/
abbrev FIN (d : Dev nD) : sProp 𝕄 := iprop((aLoc d ↦{fullShare} m (aLoc d)) ∗ (bLoc d ↦{fullShare} m (bLoc d)) ∗ oLoc d ↦{fullShare} result m d)

/-- The first operation's buffers are the host's. -/
theorem sub0 : (op0 (F := F)).bufs ⊆ HS := show ({tc main_arg0, tc main_v0} : Finset (DevRef τ sig)) ⊆ HS by decide
/-- So are the second's. -/
theorem sub1 : (op1 (F := F)).bufs ⊆ HS := show ({tc main_arg1, tc main_v1} : Finset (DevRef τ sig)) ⊆ HS by decide
/-- So are the third's. -/
theorem sub2 : (op2 (F := F)).bufs ⊆ HS := show ({tc main_v1, tc main_v2} : Finset (DevRef τ sig)) ⊆ HS by decide
/-- So are the fourth's. -/
theorem sub3 : (op3 (F := F)).bufs ⊆ HS := show ({tc main_v2, tc main_v3} : Finset (DevRef τ sig)) ⊆ HS by decide

/-- **The host program**: the four operations, then the call, the output put into write mode before it and taken out of it after it. -/
theorem hmain [FloatOps F] (κ : GSem nD τ sig → ℕ) (d : Dev nD) :
    iprop((K (F := F)).ctx EH (PM m) κ ∗ (K (F := F)).tcSt EH d 0 ∗ (K (F := F)).tcRes m ρ d ∗ ∃ ιm : ℕ, wmInv (Ix := HIx 1) (WE (F := F)) ιm)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hh, Hts, -⟩, ⟨%ιm, #Hinv⟩⟩
  iapply (wp_hlo_within 𝒱 (SparseCore.T d) none Set.univ (op := op0 (F := F)) (S := HS) sub0 (V := W0 m d)) $$ [Hb Hh]
  · isplitl [Hb] <;> iassumption
  iintro ⟨Hb, Hh⟩
  ihave Hh := (Entails.of_eq (show (held (SparseCore.T d) HS ((op0 (F := F)).result (W0 m d)) : sProp 𝕄) = held (SparseCore.T d) HS (W1 m d) from rfl)) $$ Hh
  rw [wp_ret]; imodintro
  iapply (wp_hlo_within 𝒱 (SparseCore.T d) none Set.univ (op := op1 (F := F)) (S := HS) sub1 (V := W1 m d)) $$ [Hb Hh]
  · isplitl [Hb] <;> iassumption
  iintro ⟨Hb, Hh⟩
  ihave Hh := (Entails.of_eq (show (held (SparseCore.T d) HS ((op1 (F := F)).result (W1 m d)) : sProp 𝕄) = held (SparseCore.T d) HS (W2 m d) from rfl)) $$ Hh
  rw [wp_ret]; imodintro
  iapply (wp_hlo_within 𝒱 (SparseCore.T d) none Set.univ (op := op2 (F := F)) (S := HS) sub2 (V := W2 m d)) $$ [Hb Hh]
  · isplitl [Hb] <;> iassumption
  iintro ⟨Hb, Hh⟩
  ihave Hh := (Entails.of_eq (show (held (SparseCore.T d) HS ((op2 (F := F)).result (W2 m d)) : sProp 𝕄) = held (SparseCore.T d) HS (W3 m d) from rfl)) $$ Hh
  rw [wp_ret]; imodintro
  iapply (wp_hlo_within 𝒱 (SparseCore.T d) none Set.univ (op := op3 (F := F)) (S := HS) sub3 (V := W3 m d)) $$ [Hb Hh]
  · isplitl [Hb] <;> iassumption
  iintro ⟨Hb, Hh⟩
  ihave Hh := (Entails.of_eq (show (held (SparseCore.T d) HS ((op3 (F := F)).result (W3 m d)) : sProp 𝕄) = held (SparseCore.T d) HS (W4 m d) from rfl)) $$ Hh
  rw [wp_ret]; imodintro
  ihave Hh := (Entails.of_eq (held_all d (W4 m d))) $$ Hh
  icases Hh with ⟨Ha, Hp, HX, -, -, HT, Ho⟩
  imod (pointsTo_castIn (Ix := HIx 1) (emb := WE (F := F)) (fun x => some (result m d x)) (ιwm := ιm) (E := Set.univ)) $$ [Ho] with Ho
  · isplitr; · iexact Hinv
    iexact Ho
  have h0 : (∅ : Finset (Idx (oLoc d))) = Finset.univ.biUnion fun _ : Fin 2 => ∅ := by
    ext x; simp
  ihave Ho := (Entails.of_eq (congrArg (outs (callX m) (callT m) (callO m) d fullShare) h0)) $$ Ho
  ihave Ho := (will_deal (callO m d) (result m d) 2 fullShare fun _ => ∅).1 $$ Ho
  ihave Ho := (Entails.of_eq (congrArg (fun Q => iprop(Q ∗ outs (callX m) (callT m) (callO m) d (rest fullShare 2) ∅)) (bigSep_univ_two fun c : Fin 2 => outs (callX m) (callT m) (callO m) d (cut fullShare c.val) ∅))) $$ Ho
  icases Ho with ⟨⟨Ho0, Ho1⟩, Hor⟩
  ihave HX := (show (xLoc d ↦{fullShare} callX m d : sProp 𝕄) ⊢ Some Finset.univ (callX m d) by unfold Some; iintro H; iexists fullShare; iexact H) $$ HX
  ihave HT := (show (tLoc d ↦{fullShare} callT m d : sProp 𝕄) ⊢ Some Finset.univ (callT m d) by unfold Some; iintro H; iexists fullShare; iexact H) $$ HT
  ihave HX := (Some_split _ _) $$ HX
  ihave HT := (Some_split _ _) $$ HT
  icases HX with ⟨HX0, HX1⟩
  icases HT with ⟨HT0, HT1⟩
  iapply ((K (F := F)).wp_run (D (F := F)) 𝒱 (EH := EH) (P := PM m) κ d 0) $$ [Hst Ho0 Ho1 Hor HX0 HX1 HT0 HT1 Ha Hp Hb Hts]
  isplitr; · iexact Hctx
  isplitl [Hst]; · iexact Hst
  isplitl [Ho0 Ho1 HX0 HX1 HT0 HT1]
  · rw [st0_eq]
    isplitl [Ho0 HX0 HT0]
    · isplitl [HX0 HT0]
      · isplitl [HX0]
        · unfold Some; iexact HX0
        · unfold Some; iexact HT0
      iexact Ho0
    · isplitl [HX1 HT1]
      · isplitl [HX1]; · iexact HX1
        iexact HT1
      iexact Ho1
  iintro ⟨Hst, Hdn⟩
  ihave Hdn := (Entails.of_eq (dn0_eq m d)) $$ Hdn
  ihave Ho := (will_deal (callO m d) (result m d) 2 fullShare (coreSet d)).2 $$ [Hdn Hor]
  · isplitl [Hdn]; · iexact Hdn
    iexact Hor
  ihave Ho := (Entails.of_eq (congrArg (outs (callX m) (callT m) (callO m) d fullShare) (all_written d))) $$ Ho
  imod (willBeTo_castOut_some (Ix := HIx 1) (emb := WE (F := F)) (ιwm := ιm) (E := Set.univ)) $$ [Ho] with Ho
  · isplitr; · iexact Hinv
    iexact Ho
  ihave Ho := (Entails.of_eq (congrArg (fun v => (oLoc d ↦{fullShare} v : sProp 𝕄)) (Finset.piecewise_univ (result m d) (callO m d)))) $$ Ho
  imodintro
  isplitl [Hst]; · iexact Hst
  isplitr [Hb Hts]
  · isplitl [Ha]
    · iapply (Entails.of_eq (congrArg (fun v => (aLoc d ↦{fullShare} v : sProp 𝕄)) (W4_arg0 m d))) $$ Ha
    isplitl [Hp]
    · iapply (Entails.of_eq (congrArg (fun v => (bLoc d ↦{fullShare} v : sProp 𝕄)) (W4_arg1 m d))) $$ Hp
    iexact Ho
  isplitl [Hb] <;> iassumption

/-- The final contents of the three arrays. -/
def fq (d : Dev nD) (s' : Phys nD τ sig (Elt F)) : Prop :=
  s'.mem.mem (aLoc d) = m (aLoc d) ∧ s'.mem.mem (bLoc d) = m (bLoc d) ∧ s'.mem.mem (oLoc d) = result m d

/-- What the host ends with, read in the memory. -/
theorem hfin (d : Dev nD) (s' : Phys nD τ sig (Elt F)) : iprop(FIN m d ∗ SI s') ⊢ (⌜fq m d s'⌝ : sProp 𝕄) := by
  iintro ⟨⟨Ha, Hp, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hp]
  · isplitl [HSI] <;> iassumption
  icases H with ⟨%h2, HSI, -⟩
  ihave H := (SI_pointsTo_agree (st := s') (ℓ := oLoc d) (I := Finset.univ) (q := fullShare) (f := result m d)) $$ [HSI Ho]
  · isplitl [HSI] <;> iassumption
  icases H with %h3
  ipureintro
  exact ⟨funext fun x => h1 x (Finset.mem_univ x), funext fun x => h2 x (Finset.mem_univ x), funext fun x => h3 x (Finset.mem_univ x)⟩

/-- What every run of the program leaves. -/
def Done : PUnit × MemSt nD τ sig (Elt F) → Prop := fun r =>
  (∀ d : Dev nD, r.2.mem (aLoc d) = m (aLoc d) ∧ r.2.mem (bLoc d) = m (bLoc d) ∧ r.2.mem (oLoc d) = result m d) ∧ r.2.sem = fun _ => 0

/-- Every run ends, the arguments kept, the output at the lookups, every semaphore at zero. -/
theorem run_main [FloatOps F] [∀ e, Nonempty (Elt F e)] :
    θ_run (Cert.KernelIdeal.defs (F := F)) (Cert.KernelIdeal.threads (F := F)) ⟨m, fun _ => 0, ρ⟩ (Done m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (callX m) (callT m) (callO m))
    (fun q _ => match q with | 0 => SparseCore.Cfg.VecSplit.of_plain (vecSplit (callX m) (callT m) (callO m)))
    m ρ main (fun _ => iprop(∃ ιm : ℕ, wmInv (Ix := HIx 1) (WE (F := F)) ιm)) (FIN m) (u₀ (F := F))
    (sep_elim_left.trans (hu₀ (callX m) (callT m) (callO m) ⟨m, fun _ => 0, ρ⟩)) (hmain m ρ) (fq m) (hfin m) (Done m) (fun _ h hz => ⟨h, hz⟩)

end Cert.Proof.Lookup
-- ==== Proof.Word.lean ====
/-
  The word a lookup is found at: from three indices below 256, the place of the entry in the re-tiled table.
-/
module

public import proofs.«01_k».proof.Proof.Chunk

@[expose] public section

namespace Cert.Proof.Lookup

/-- The parts of a number below 256 that the kernel's masks keep. -/
theorem mask_parts : ∀ n : Fin 256, n.val &&& 4294967288 = n.val / 8 * 8 ∧ n.val &&& 7 = n.val % 8
    ∧ n.val &&& 128 = n.val / 128 * 128 ∧ n.val &&& 127 = n.val % 128 := by decide +kernel

/-- Disjoint bit fields joined by `or` add up. -/
theorem or_fields (p q r s t : ℕ) (hq : q < 32) (hr : r < 2) (hs : s < 8) (ht : t < 128) :
    (((p * 65536 ||| q * 2048) ||| s * 128) ||| r * 1024) ||| t = p * 65536 + q * 2048 + r * 1024 + s * 128 + t := by
  have e1 : s * 128 ||| t = s * 128 + t := by
    have := Nat.shiftLeft_add_eq_or_of_lt (i := 7) (b := t) (by omega) s
    rw [Nat.shiftLeft_eq] at this; exact this.symm
  have e2 : r * 1024 ||| (s * 128 + t) = r * 1024 + (s * 128 + t) := by
    have := Nat.shiftLeft_add_eq_or_of_lt (i := 10) (b := s * 128 + t) (by omega) r
    rw [Nat.shiftLeft_eq] at this; exact this.symm
  have e3 : q * 2048 ||| (r * 1024 + (s * 128 + t)) = q * 2048 + (r * 1024 + (s * 128 + t)) := by
    have := Nat.shiftLeft_add_eq_or_of_lt (i := 11) (b := r * 1024 + (s * 128 + t)) (by omega) q
    rw [Nat.shiftLeft_eq] at this; exact this.symm
  have e4 : p * 65536 ||| (q * 2048 + (r * 1024 + (s * 128 + t))) = p * 65536 + (q * 2048 + (r * 1024 + (s * 128 + t))) := by
    have := Nat.shiftLeft_add_eq_or_of_lt (i := 16) (b := q * 2048 + (r * 1024 + (s * 128 + t))) (by omega) p
    rw [Nat.shiftLeft_eq] at this; exact this.symm
  rw [Nat.or_assoc (p * 65536 ||| q * 2048), Nat.or_comm (s * 128), ← Nat.or_assoc, Nat.or_assoc _ (s * 128), e1,
    Nat.or_assoc _ (r * 1024), e2, Nat.or_assoc, e3, e4]
  omega

/-- **The place of an entry in the re-tiled table**, for indices below 256. -/
theorem widx_toNat (a b k : BitVec 32) (ha : a.toNat < 256) (hb : b.toNat < 256) (hk : k.toNat < 256) :
    (widx a b k).toNat = a.toNat * 65536 + b.toNat / 8 * 2048 + k.toNat / 128 * 1024 + b.toNat % 8 * 128 + k.toNat % 128 := by
  have hB := mask_parts ⟨b.toNat, hb⟩
  have hK := mask_parts ⟨k.toNat, hk⟩
  dsimp only at hB hK
  have s1 : (a <<< 16).toNat = a.toNat * 65536 := by
    rw [BitVec.toNat_shiftLeft, Nat.shiftLeft_eq]; omega
  have s2 : ((b &&& 4294967288#32) <<< 8).toNat = b.toNat / 8 * 2048 := by
    rw [BitVec.toNat_shiftLeft, BitVec.toNat_and, Nat.shiftLeft_eq, show (4294967288#32).toNat = 4294967288 from rfl, hB.1]; omega
  have s3 : ((b &&& 7#32) <<< 7).toNat = b.toNat % 8 * 128 := by
    rw [BitVec.toNat_shiftLeft, BitVec.toNat_and, Nat.shiftLeft_eq, show (7#32).toNat = 7 from rfl, hB.2.1]; omega
  have s4 : ((k &&& 128#32) <<< 3).toNat = k.toNat / 128 * 1024 := by
    rw [BitVec.toNat_shiftLeft, BitVec.toNat_and, Nat.shiftLeft_eq, show (128#32).toNat = 128 from rfl, hK.2.2.1]; omega
  have s5 : (k &&& 127#32).toNat = k.toNat % 128 := by
    rw [BitVec.toNat_and, show (127#32).toNat = 127 from rfl, hK.2.2.2]
  unfold widx
  rw [BitVec.toNat_and, BitVec.toNat_or, BitVec.toNat_or, BitVec.toNat_or, BitVec.toNat_or, s1, s2, s3, s4, s5,
    or_fields _ _ _ _ _ (by omega) (by omega) (by omega) (by omega),
    show (16777215#32).toNat = 2 ^ 24 - 1 from rfl, Nat.and_two_pow_sub_one_eq_mod]
  omega

end Cert.Proof.Lookup
-- ==== Proof.Table.lean ====
/-
  What the call finds in the kernel's two operands: the indices with rows and columns exchanged, and the
  table re-tiled so that the entry at `(a, b, k)` lies at the place `widx` computes.
-/
module

public import proofs.«01_k».proof.Proof.Launch
public import proofs.«01_k».proof.Proof.Word
public import Idealize.ShloMosaic.Lib.Pipeline.Value

@[expose] public section

noncomputable section

namespace Cert.Proof.Lookup

open Cert.KernelIdeal Cert.KernelIdeal.Gen
open Idealize.ShloMosaic

variable {F : FTy → Type} (m : (ℓ : Loc nD τ sig) → Buf (Elt F) ℓ)

/-- Row `n`, column `c` of the indices. -/
def at2 (n : Fin 1000000) (c : Fin 3) : S1000000x3.Idx := fun a => match a with | 0 => n | 1 => c

/-- The entry of the table at three indices. -/
def at3 (a b k : Fin 256) : S256x256x256.Idx := fun x => match x with | 0 => a | 1 => b | 2 => k

/-- The indices the call finds are the argument's, transposed. -/
theorem callX_eq (d : Dev nD) : callX m d = transpose S3x1000000 [1, 0] (m (aLoc d)) transposes_S1000000x3_S3x1000000_1_0 := by
  show W4 m d (tc main_v0) = _
  unfold W4 W3 W2
  rw [(op3 (F := F)).result_of_not_mem _ (show tc main_v0 ∉ ({tc main_v3} : Finset (DevRef τ sig)) by decide),
    (op2 (F := F)).result_of_not_mem _ (show tc main_v0 ∉ ({tc main_v2} : Finset (DevRef τ sig)) by decide),
    (op1 (F := F)).result_of_not_mem _ (show tc main_v0 ∉ ({tc main_v1} : Finset (DevRef τ sig)) by decide)]
  exact StableHlo.unary_result ..

/-- Entry `n` of row `c` of the transposed indices. -/
theorem callX_apply (d : Dev nD) (c : Fin 3) (n : ℕ) (h : n < 1000000) : callX m d (rowAt c n h) = m (aLoc d) (at2 ⟨n, h⟩ c) := by
  rw [callX_eq]
  refine transpose_apply [1, 0] (m (aLoc d)) transposes_S1000000x3_S3x1000000_1_0 (rowAt c n h) (at2 ⟨n, h⟩ c) fun b => ?_
  match b with
  | 0 => rfl
  | 1 => rfl

/-- The table the call finds is the argument, cut into tiles, the tiles' axes exchanged, laid flat. -/
theorem callT_eq (d : Dev nD) : callT m d = shapeCast S16777216 (transpose S256x32x2x8x128 [0, 1, 3, 2, 4]
    (shapeCast S256x32x8x2x128 (m (bLoc d)) shapeCasts_S256x256x256_S256x32x8x2x128) transposes_S256x32x8x2x128_S256x32x2x8x128_0_1_3_2_4)
    shapeCasts_S256x32x2x8x128_S16777216 := by
  show W4 m d (tc main_v3) = _
  unfold W4
  refine (StableHlo.reshape_result ..).trans ?_
  have e2 : W3 m d (tc main_v2) = transpose S256x32x2x8x128 [0, 1, 3, 2, 4] (W2 m d (tc main_v1)) transposes_S256x32x8x2x128_S256x32x2x8x128_0_1_3_2_4 := by
    unfold W3; exact StableHlo.unary_result ..
  have e1 : W2 m d (tc main_v1) = shapeCast S256x32x8x2x128 (W1 m d (tc main_arg1)) shapeCasts_S256x256x256_S256x32x8x2x128 := by
    unfold W2; exact StableHlo.reshape_result ..
  have e0 : W1 m d (tc main_arg1) = m (bLoc d) := by
    unfold W1; rw [(op0 (F := F)).result_of_not_mem _ (show tc main_arg1 ∉ ({tc main_v0} : Finset (DevRef τ sig)) by decide)]; rfl
  rw [← e0, ← e1, ← e2]
  rfl

/-- A place of the tiled table. -/
def tiled (a : Fin 256) (b : Fin 32) (k : Fin 2) (s : Fin 8) (t : Fin 128) : S256x32x2x8x128.Idx :=
  fun x => match x with | 0 => a | 1 => b | 2 => k | 3 => s | 4 => t

/-- The same place before the tiles' axes are exchanged. -/
def untiled (a : Fin 256) (b : Fin 32) (k : Fin 2) (s : Fin 8) (t : Fin 128) : S256x32x8x2x128.Idx :=
  fun x => match x with | 0 => a | 1 => b | 2 => s | 3 => k | 4 => t

/-- The re-tiled table at the place of `(a, b, k)`. -/
theorem callT_apply (d : Dev nD) (a b k : Fin 256) (p : ℕ) (hp : p < 16777216)
    (e : p = a.val * 65536 + b.val / 8 * 2048 + k.val / 128 * 1024 + b.val % 8 * 128 + k.val % 128) :
    callT m d (ix1 p hp) = m (bLoc d) (at3 a b k) := by
  rw [callT_eq]
  rw [shapeCast_apply _ _ _ (tiled a ⟨b.val / 8, by omega⟩ ⟨k.val / 128, by omega⟩ ⟨b.val % 8, by omega⟩ ⟨k.val % 128, by omega⟩) (by
    rw [Shape.rowMajor_val_five, Shape.rowMajor_val_one]
    show (((a.val * 32 + b.val / 8) * 2 + k.val / 128) * 8 + b.val % 8) * 128 + k.val % 128 = p
    omega)]
  rw [transpose_apply _ _ _ _ (untiled a ⟨b.val / 8, by omega⟩ ⟨k.val / 128, by omega⟩ ⟨b.val % 8, by omega⟩ ⟨k.val % 128, by omega⟩) (fun x => by
    match x with
    | 0 => rfl
    | 1 => rfl
    | 2 => rfl
    | 3 => rfl
    | 4 => rfl)]
  refine shapeCast_apply _ _ _ (at3 a b k) ?_
  rw [Shape.rowMajor_val_five, Shape.rowMajor_val_three]
  show (a.val * 256 + b.val) * 256 + k.val = (((a.val * 32 + b.val / 8) * 8 + b.val % 8) * 2 + k.val / 128) * 128 + k.val % 128
  omega

/-- **What the kernel leaves in row `n`**, with every index below 256: the table's entry at its three indices. -/
theorem result_apply (d : Dev nD) (hX : ∀ i, (m (aLoc d) i).toNat < 256) (n : Fin 1000000) :
    result m d (ix1 n.val n.isLt) = m (bLoc d)
      (at3 ⟨(m (aLoc d) (at2 n 0)).toNat, hX _⟩ ⟨(m (aLoc d) (at2 n 1)).toNat, hX _⟩ ⟨(m (aLoc d) (at2 n 2)).toNat, hX _⟩) := by
  refine callT_apply m d _ _ _ _ _ ?_
  show (widx (callX m d (rowAt 0 n.val n.isLt)) (callX m d (rowAt 1 n.val n.isLt)) (callX m d (rowAt 2 n.val n.isLt))).toNat = _
  rw [callX_apply, callX_apply, callX_apply]
  exact widx_toNat _ _ _ (hX _) (hX _) (hX _)

end Cert.Proof.Lookup

end
-- ==== Proof.Ref.lean ====
/-
  What the reference computes, entry by entry: with the indices below 256, its lookup of row `n` is the
  table's entry at the three indices of that row. Also: the reference has no semaphore.
-/
module

public import proofs.«01_k».proof.Proof.Gen.ReferenceIdeal.Run
public import Idealize.ShloMosaic.Lib.StableHlo.Predicate
public import Idealize.ShloMosaic.Lib.Pipeline.Value
public import Idealize.ShloMosaic.Lib.ReduceAll
public import Idealize.ShloMosaic.Lib.Affine

@[expose] public section

noncomputable section

namespace Cert.Proof.Ref

open Cert.ReferenceIdeal Cert.ReferenceIdeal.Gen
open Idealize.ShloMosaic Idealize.ShloMosaic.TcCoe

variable {F : FTy → Type} [FloatOps F]

/-- Row `n`, column `c` of the indices. -/
def at2 (n : Fin 1000000) (c : Fin 3) : S1000000x3.Idx := fun a => match a with | 0 => n | 1 => c

/-- The entry of the table at three indices. -/
def at3 (a b k : Fin 256) : S256x256x256.Idx := fun x => match x with | 0 => a | 1 => b | 2 => k

/-- The place of every row's entry in the flat table, as the reference computes it. -/
def places (X : IVec S1000000x3 32) : IVec S1000000 32 :=
  addi (muli (addi (muli (shapeCast _ (extractStridedSlice S1000000x1 ![0, 0] X slices_S1000000x3_S1000000x1_0_0) shapeCasts_S1000000x1_S1000000)
      (broadcastInDim S1000000 ![] bcast_S_S1000000 (constantI S_ 32 256#32)))
      (shapeCast _ (extractStridedSlice S1000000x1 ![0, 1] X slices_S1000000x3_S1000000x1_0_1) shapeCasts_S1000000x1_S1000000))
      (broadcastInDim S1000000 ![] bcast_S_S1000000 (constantI S_ 32 256#32)))
    (shapeCast _ (extractStridedSlice S1000000x1 ![0, 2] X slices_S1000000x3_S1000000x1_0_2) shapeCasts_S1000000x1_S1000000)

/-- The places with a negative one counted from the end. -/
def wrapped (p : IVec S1000000 32) : IVec S1000000x1 32 :=
  broadcastInDim S1000000x1 ![0] bcast_S1000000_S1000000x1_0
    (select (cmpi .slt p (broadcastInDim S1000000 ![] bcast_S_S1000000 (constantI S_ 32 0#32)))
      (addi p (broadcastInDim S1000000 ![] bcast_S_S1000000 (constantI S_ 32 16777216#32))) p)

/-- Which places lie in the table. -/
def inside (q : IVec S1000000x1 32) : IVec S1000000x1 1 :=
  andi (cmpi .sge q (broadcastInDim S1000000x1 ![] bcast_S_S1000000x1 (constantI S_ 32 0#32)))
    (cmpi .sle q (broadcastInDim S1000000x1 ![0, 1] bcast_S1x1_S1000000x1_0_1 (broadcastInDim S1x1 ![1] bcast_S1_S1x1_1 (constantI S1 32 16777215#32))))

/-- The reference's reads of the table at given places. -/
def reads (q : IVec S1000000x1 32) (T : FVec F S256x256x256 .f32) : FVec F S1000000 .f32 :=
  select (Host.reduce IntOp.andi (inside q) (constantI S_ 1 1#1) reducesTo_S1000000x1_S1000000_d1 h_S_)
    (Host.gather gather_S16777216_S1000000x1_S1000000_n_0_n_n_0_1_1 (shapeCast _ T shapeCasts_S256x256x256_S16777216) q)
    (broadcastInDim S1000000 ![] bcast_S_S1000000 (constant S_ .f32 0x7FC00000#32))

/-- The reference's result is those reads. -/
theorem result_eq (m : (ℓ : Loc nD τ sig) → Buf (Elt F) ℓ) (c : Dev nD) :
    Cert.ReferenceIdeal.Value.res_out0 m c
      = reads (wrapped (places (m ((c.tc : Thread nD τ).loc main_arg0)))) (m ((c.tc : Thread nD τ).loc main_arg1)) := rfl

/-- One column of the indices, as the reference slices and flattens it. -/
theorem column (X : IVec S1000000x3 32) (c : Fin 3) (h : S1000000x3.Slices ![0, c.val] S1000000x1) (n : Fin 1000000) :
    shapeCast S1000000 (extractStridedSlice S1000000x1 ![0, c.val] X h) shapeCasts_S1000000x1_S1000000 (Shape.Idx.ofFin n) = X (at2 n c) := by
  rw [shapeCast_apply _ _ _ (StableHlo.Predicate.ixP n) (by
    rw [Shape.rowMajor_val_two, Shape.rowMajor_val_one]
    show n.val * 1 + 0 = n.val
    omega)]
  refine extractStridedSlice_apply _ X h _ (at2 n c) fun a => ?_
  match a with
  | 0 => show n.val = 0 + n.val; omega
  | 1 => show c.val = c.val + 0; omega

/-- The place of row `n`'s entry: its three indices as digits in base 256. -/
theorem places_toNat (X : IVec S1000000x3 32) (hX : ∀ i, (X i).toNat < 256) (n : Fin 1000000) :
    (places X (Shape.Idx.ofFin n)).toNat = ((X (at2 n 0)).toNat * 256 + (X (at2 n 1)).toNat) * 256 + (X (at2 n 2)).toNat := by
  have h0 := hX (at2 n 0)
  have h1 := hX (at2 n 1)
  have h2 := hX (at2 n 2)
  have e : places X (Shape.Idx.ofFin n) = (X (at2 n 0) * 256#32 + X (at2 n 1)) * 256#32 + X (at2 n 2) := by
    rw [← column X 0 slices_S1000000x3_S1000000x1_0_0 n, ← column X 1 slices_S1000000x3_S1000000x1_0_1 n,
      ← column X 2 slices_S1000000x3_S1000000x1_0_2 n]
    rfl
  rw [e]
  simp only [BitVec.toNat_add, BitVec.toNat_mul, BitVec.toNat_ofNat]
  omega

/-- A place in the table is kept as it is. -/
theorem wrapped_apply (p : IVec S1000000 32) (n : Fin 1000000) (h : (p (Shape.Idx.ofFin n)).toNat < 16777216) :
    wrapped p (StableHlo.Predicate.ixP n) = p (Shape.Idx.ofFin n) := by
  unfold wrapped
  rw [broadcastInDim_apply _ _ _ _ (Shape.Idx.ofFin n) (fun a => by
    obtain rfl : a = 0 := Subsingleton.elim _ _
    rfl)]
  show (if IntOp.cmpi .slt (p (Shape.Idx.ofFin n)) 0#32 = 1 then _ else p (Shape.Idx.ofFin n)) = _
  rw [if_neg]
  intro hc
  have := IntOp.cmpi_slt.1 hc
  rw [BitVec.toInt_eq_toNat_of_lt (by omega)] at this
  simp at this
  omega

/-- Every index of the column of places is one row's. -/
theorem ixP_eta (i : S1000000x1.Idx) : ∃ n : Fin 1000000, i = StableHlo.Predicate.ixP n :=
  ⟨i 0, funext fun a => match a with
    | ⟨0, _⟩ => rfl
    | ⟨1, _⟩ => Subsingleton.elim (α := Fin 1) _ _⟩

/-- A place below the table's length is found inside it. -/
theorem inside_apply (q : IVec S1000000x1 32) (i : S1000000x1.Idx) (h : (q i).toNat < 16777216) : inside q i = 1#1 := by
  show IntOp.andi (IntOp.cmpi .sge (q i) 0#32) (IntOp.cmpi .sle (q i) 16777215#32) = 1#1
  have hq := BitVec.toInt_eq_toNat_of_lt (x := q i) (by omega)
  rw [IntOp.cmpi_sge.2 (by rw [hq]; simp), IntOp.cmpi_sle.2 (by
    rw [hq, show (16777215#32).toInt = 16777215 from rfl]; omega)]
  rfl

/-- Where the condition holds, the selection is its first operand. -/
theorem select_one {s : Shape} {α : Type} (c : IVec s 1) (x y : s.Idx → α) (j : s.Idx) (h : c j = 1#1) : select c x y j = x j :=
  if_pos h

/-- A read at a place below the table's length is the flat table there. -/
theorem reads_apply (q : IVec S1000000x1 32) (T : FVec F S256x256x256 .f32) (hq : ∀ i, (q i).toNat < 16777216) (n : Fin 1000000) :
    reads q T (Shape.Idx.ofFin n)
      = shapeCast S16777216 T shapeCasts_S256x256x256_S16777216 (Shape.Idx.ofFin ⟨(q (StableHlo.Predicate.ixP n)).toNat, hq _⟩) := by
  have hm : Host.reduce IntOp.andi (inside q) (constantI S_ 1 1#1) reducesTo_S1000000x1_S1000000_d1 h_S_ (Shape.Idx.ofFin n) = 1#1 :=
    Host.reduce_andi_one _ _ _ _ _ rfl fun i => inside_apply q i (hq i)
  unfold reads
  rw [select_one _ _ _ _ hm, StableHlo.Predicate.gather_take _ rfl rfl rfl rfl _ _ n (by omega)]
  have h := hq (StableHlo.Predicate.ixP n)
  refine congrArg (fun i => shapeCast S16777216 T shapeCasts_S256x256x256_S16777216 (Shape.Idx.ofFin i)) (Fin.ext ?_)
  show min (q (StableHlo.Predicate.ixP n)).toInt.toNat (16777216 - 1) = (q (StableHlo.Predicate.ixP n)).toNat
  rw [BitVec.toInt_eq_toNat_of_lt (by omega), Int.toNat_natCast]
  omega

/-- The flat table at a place given by three digits in base 256. -/
theorem flat_apply (T : FVec F S256x256x256 .f32) (a b k : Fin 256) (p : Fin 16777216) (hp : p.val = (a.val * 256 + b.val) * 256 + k.val) :
    shapeCast S16777216 T shapeCasts_S256x256x256_S16777216 (Shape.Idx.ofFin p) = T (at3 a b k) := by
  refine shapeCast_apply T _ _ (at3 a b k) ?_
  rw [Shape.rowMajor_val_three, Shape.rowMajor_val_one]
  show (a.val * 256 + b.val) * 256 + k.val = p.val
  omega

/-- **The reference's lookup**: with every index below 256, row `n` reads the table at its three indices. -/
theorem lookup (m : (ℓ : Loc nD τ sig) → Buf (Elt F) ℓ) (c : Dev nD) (X : IVec S1000000x3 32) (T : FVec F S256x256x256 .f32)
    (eX : m ((c.tc : Thread nD τ).loc main_arg0) = X) (eT : m ((c.tc : Thread nD τ).loc main_arg1) = T)
    (hX : ∀ i, (X i).toNat < 256) (n : Fin 1000000) :
    Cert.ReferenceIdeal.Value.res_out0 m c (Shape.Idx.ofFin n)
      = T (at3 ⟨(X (at2 n 0)).toNat, hX _⟩ ⟨(X (at2 n 1)).toNat, hX _⟩ ⟨(X (at2 n 2)).toNat, hX _⟩) := by
  rw [result_eq, eX, eT]
  have hp : ∀ n : Fin 1000000, (places X (Shape.Idx.ofFin n)).toNat < 16777216 := fun n => by
    rw [places_toNat X hX]
    have h0 := hX (at2 n 0)
    have h1 := hX (at2 n 1)
    have h2 := hX (at2 n 2)
    omega
  have hw : ∀ n : Fin 1000000, wrapped (places X) (StableHlo.Predicate.ixP n) = places X (Shape.Idx.ofFin n) := fun n => wrapped_apply _ n (hp n)
  have hq : ∀ i, (wrapped (places X) i).toNat < 16777216 := fun i => by
    obtain ⟨n, rfl⟩ := ixP_eta i
    rw [hw]; exact hp n
  rw [reads_apply _ T hq n]
  exact flat_apply T _ _ _ _ (by
    show (wrapped (places X) (StableHlo.Predicate.ixP n)).toNat = _
    rw [hw, places_toNat X hX])

end Cert.Proof.Ref

end
-- ==== Proof.Range.lean ====
/-
  What the condition on the indices says: each of them is below 256.
-/
module

public import proofs.«01_k».proof.Proof.Gen.Pre_in_range
public import Idealize.ShloMosaic.Lib.ReduceAll
public import Idealize.ShloMosaic.Lib.Affine

@[expose] public section

namespace Cert.Proof.Range

open Cert.Pre_in_range Cert.Pre_in_range.Gen
open Idealize.ShloMosaic

/-- A word between 0 and 256 as a signed number is below 256 as a natural number. -/
theorem small (x : BitVec 32) (h0 : IntOp.cmpi .sge x 0#32 = 1#1) (h1 : IntOp.cmpi .slt x 256#32 = 1#1) : x.toNat < 256 := by
  have h0 := IntOp.cmpi_sge.1 h0
  have h1 := IntOp.cmpi_slt.1 h1
  rw [show (0#32).toInt = 0 from rfl] at h0
  rw [show (256#32).toInt = 256 from rfl] at h1
  rw [BitVec.toInt_eq_toNat_cond] at h0 h1
  split at h0 <;> omega

/-- **The condition, index by index.** -/
theorem below {F : FTy → Type} [FloatOps F] (X : IVec S1000000x3 32) (T : FVec F S256x256x256 .f32)
    (h : fn (F := F) X T = fun _ => 1#1) (i : S1000000x3.Idx) : (X i).toNat < 256 := by
  haveI : Subsingleton S_.Idx := ⟨fun x y => funext fun a => a.elim0⟩
  have e := Host.reduce_andi_all _ _ _ _ (fun a => a.elim0) (congrFun h fun a => a.elim0) i
  have e' : IntOp.andi (IntOp.cmpi .sge (X i) 0#32) (IntOp.cmpi .slt (X i) 256#32) = 1#1 := e
  exact small _ (IntOp.andi_eq_one.1 e').1 (IntOp.andi_eq_one.1 e').2

end Cert.Proof.Range
-- ==== Proof.Equation.lean ====
/-
  The equation: on memories that agree on the arguments, with every index below 256, the kernel's output is
  the reference's.
-/
module

public import proofs.«01_k».proof.Proof.Table
public import proofs.«01_k».proof.Proof.Ref
public import proofs.«01_k».proof.Proof.Range

@[expose] public section

noncomputable section

namespace Cert.Proof.Lookup

open Idealize.ShloMosaic Idealize.ShloMosaic.TcCoe

variable {F : FTy → Type} [FloatOps F]

/-- **The kernel's output is the reference's.** -/
theorem same_result (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD) (hX : ∀ i, (m (aLoc c) i).toNat < 256)
    (eX : m' ((c.tc : Thread Cert.ReferenceIdeal.nD Cert.ReferenceIdeal.τ).loc Cert.ReferenceIdeal.main_arg0) = m (aLoc c))
    (eT : m' ((c.tc : Thread Cert.ReferenceIdeal.nD Cert.ReferenceIdeal.τ).loc Cert.ReferenceIdeal.main_arg1) = m (bLoc c)) :
    Cert.ReferenceIdeal.Value.res_out0 m' c = result m c := by
  funext j
  obtain ⟨n, rfl⟩ : ∃ n : Fin 1000000, j = Shape.Idx.ofFin n := ⟨j 0, funext fun a => match a with | 0 => rfl⟩
  refine (Cert.Proof.Ref.lookup m' c (m (aLoc c)) (m (bLoc c)) eX eT hX n).trans ?_
  refine Eq.trans ?_ (congrArg (result m c) (show ix1 n.val n.isLt = Shape.Idx.ofFin n from funext fun a => match a with | 0 => rfl))
  exact (result_apply m c hX n).symm

end Cert.Proof.Lookup

end
-- ==== Proof.lean ====
/-
  The certificate: each program's frame, and the value claim, read from the kernel's run (`Launch`), the
  reference's run and the equation between what they leave (`Equation`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's run, read at its arguments and its semaphores, at the machine's own floats. -/
theorem frame_kernel : Cert.quiescent_Kernel := fun m ρ _ =>
  (θ_run Cert.Kernel.defs _ _).mono (fun _ h => ⟨fun c => ⟨(h.1 c).1, (h.1 c).2.1⟩, h.2⟩) (Lookup.run_main (F := Bits) m ρ)

/-- The same over the reals. -/
theorem frame_ideal : Cert.quiescent_KernelIdeal := fun m ρ _ =>
  (θ_run Cert.KernelIdeal.defs _ _).mono (fun _ h => ⟨fun c => ⟨(h.1 c).1, (h.1 c).2.1⟩, h.2⟩) (Lookup.run_main (F := Ideal) m ρ)

/-- The same on the memories that meet the condition. -/
theorem frame_ideal_in_range : Cert.quiescent_KernelIdeal_pre_in_range := fun m ρ _ =>
  (θ_run Cert.KernelIdeal.defs _ _).mono (fun _ h => ⟨fun c => ⟨(h.1 c).1, (h.1 c).2.1⟩, h.2⟩) (Lookup.run_main (F := Ideal) m ρ)

/-- The reference's run, read at its arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same on the memories that meet the condition. -/
theorem frame_reference_in_range : Cert.quiescent_ReferenceIdeal_pre_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's output is the reference's: both are the table's entries at the rows' three indices. -/
theorem algebraic : Cert.algebraic_KernelIdeal_ReferenceIdeal_pre_in_range := by
  intro m ρ m' ρ' hpre hagree
  refine ⟨fun c => Lookup.result m c,
    (θ_run Cert.KernelIdeal.defs _ _).mono (fun _ h c => ⟨(h.1 c).2.2, (h.1 c).1, (h.1 c).2.1⟩) (Lookup.run_main (F := Ideal) m ρ),
    (θ_run Cert.ReferenceIdeal.defs _ _).mono (fun _ h c => ⟨(h c).1.trans ?_, (h c).2⟩) (Cert.ReferenceIdeal.Value.run (F := Ideal) m' ρ')⟩
  exact Lookup.same_result m m' c (fun i => Range.below (F := Ideal) _ _ (hpre c) i) (hagree c).1 (hagree c).2

/-- **The claims**: the five frames, nothing rewritten, the same results. -/
theorem claim : Cert.Claim := ⟨Cert.Kernel.Gen.facts, Cert.KernelIdeal.Gen.facts, Cert.ReferenceIdeal.Gen.facts, Cert.Pre_in_range.Gen.facts,
  frame_kernel, frame_ideal, frame_ideal_in_range, frame_reference, frame_reference_in_range, trivial, algebraic⟩

end Cert.Proof

end
